-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_sizes_finite_features [hPre_equal_sizes_finite_features : Cert.Pre_equal_sizes_finite_features.Facts] (m : (ℓ : Loc Cert.KernelIdeal.nD Cert.KernelIdeal.τ Cert.KernelIdeal.sig) → Buf (Elt Ideal) ℓ) : Prop :=
  ∀ c : Dev Cert.KernelIdeal.nD,
    (Cert.Pre_equal_sizes_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_equal_sizes_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_sizes_finite_features [hPre_equal_sizes_finite_features : Cert.Pre_equal_sizes_finite_features.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_sizes_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_equal_sizes_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_equal_sizes_finite_features [hKernelIdeal : Cert.KernelIdeal.Facts] [hPre_equal_sizes_finite_features : Cert.Pre_equal_sizes_finite_features.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_sizes_finite_features m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_equal_sizes_finite_features [hReferenceIdeal : Cert.ReferenceIdeal.Facts] [hPre_equal_sizes_finite_features : Cert.Pre_equal_sizes_finite_features.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_sizes_finite_features m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_equal_sizes_finite_features [hKernelIdeal : Cert.KernelIdeal.Facts] [hReferenceIdeal : Cert.ReferenceIdeal.Facts] [hPre_equal_sizes_finite_features : Cert.Pre_equal_sizes_finite_features.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_sizes_finite_features m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_equal_sizes_finite_features : Cert.Pre_equal_sizes_finite_features.Facts),
    quiescent_Kernel (hKernel := hKernel)
    ∧ quiescent_KernelIdeal (hKernelIdeal := hKernelIdeal)
    ∧ quiescent_KernelIdeal_pre_equal_sizes_finite_features (hKernelIdeal := hKernelIdeal) (hPre_equal_sizes_finite_features := hPre_equal_sizes_finite_features)
    ∧ quiescent_ReferenceIdeal (hReferenceIdeal := hReferenceIdeal)
    ∧ quiescent_ReferenceIdeal_pre_equal_sizes_finite_features (hReferenceIdeal := hReferenceIdeal) (hPre_equal_sizes_finite_features := hPre_equal_sizes_finite_features)
    ∧ preserves_Kernel_KernelIdeal
    ∧ algebraic_KernelIdeal_ReferenceIdeal_pre_equal_sizes_finite_features (hKernelIdeal := hKernelIdeal) (hReferenceIdeal := hReferenceIdeal) (hPre_equal_sizes_finite_features := hPre_equal_sizes_finite_features)
-- ==== Pre_equal_sizes_finite_features.lean ====
abbrev S100000x128 : Shape := ⟨2, ![100000, 128]⟩
abbrev S200 : Shape := ⟨1, ![200]⟩
abbrev S200x128 : Shape := ⟨2, ![200, 128]⟩
abbrev S512x256 : Shape := ⟨2, ![512, 256]⟩
abbrev S512x128 : Shape := ⟨2, ![512, 128]⟩
abbrev S512 : Shape := ⟨1, ![512]⟩
abbrev S_ : Shape := ⟨0, ![]⟩

class Facts : Prop where
  bcast_S_S200 : S_.BroadcastsInDim S200 (![] : Fin 0 → Fin S200.rank)
  bcast_S_S100000x128 : S_.BroadcastsInDim S100000x128 (![] : Fin 0 → Fin S100000x128.rank)

variable [Facts]

def fn {F : FTy → Type} [FloatOps F] (main_arg0 : FVec F S100000x128 .f32) (main_arg1 : IVec S200 32) (main_arg2 : FVec F S200x128 .f32) (main_arg3 : FVec F S512x256 .f32) (main_arg4 : FVec F S512x128 .f32) (main_arg5 : FVec F S512 .f32) (main_arg6 : FVec F S512 .f32) : IVec S200 1 × IVec S100000x128 1 :=
  let main_c : IVec S_ 32 := constantI S_ 32 500#32
  let main_v0 : IVec S200 32 := broadcastInDim S200 ![] bcast_S_S200 main_c
  let main_v1 : IVec S200 1 := cmpi .eq main_arg1 main_v0
  let main_v2 : FVec F S100000x128 .f32 := Host.absf main_arg0
  let main_cst : FVec F S_ .f32 := constant S_ .f32 0x7F800000#32
  let main_v3 : FVec F S100000x128 .f32 := broadcastInDim S100000x128 ![] bcast_S_S100000x128 main_cst
  let main_v4 : IVec S100000x128 1 := cmpf .olt main_v2 main_v3
  (main_v1, main_v4)
-- ==== Kernel.lean ====
abbrev S100000x128 : Shape := ⟨2, ![100000, 128]⟩
abbrev S200 : Shape := ⟨1, ![200]⟩
abbrev S200x128 : Shape := ⟨2, ![200, 128]⟩
abbrev S512x256 : Shape := ⟨2, ![512, 256]⟩
abbrev S512x128 : Shape := ⟨2, ![512, 128]⟩
abbrev S512 : Shape := ⟨1, ![512]⟩
abbrev S256x512 : Shape := ⟨2, ![256, 512]⟩
abbrev S128x512 : Shape := ⟨2, ![128, 512]⟩
abbrev S384x512 : Shape := ⟨2, ![384, 512]⟩
abbrev S1x512 : Shape := ⟨2, ![1, 512]⟩
abbrev S200x384 : Shape := ⟨2, ![200, 384]⟩
abbrev S40x128 : Shape := ⟨2, ![40, 128]⟩
abbrev S40x384 : Shape := ⟨2, ![40, 384]⟩
abbrev S2 : Shape := ⟨1, ![2]⟩
abbrev S1 : Shape := ⟨1, ![1]⟩
abbrev S_ : Shape := ⟨0, ![]⟩
abbrev S20000x128 : Shape := ⟨2, ![20000, 128]⟩
abbrev S200x512 : Shape := ⟨2, ![200, 512]⟩
abbrev S8x4000 : Shape := ⟨2, ![8, 4000]⟩
abbrev S4000x128 : Shape := ⟨2, ![4000, 128]⟩
abbrev S8x128 : Shape := ⟨2, ![8, 128]⟩
abbrev S8 : Shape := ⟨1, ![8]⟩
abbrev S8x1 : Shape := ⟨2, ![8, 1]⟩

abbrev nBuf : Space → Nat
  | .hbm => 13
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S200, .i32⟩
  | .hbm, ⟨2, _⟩ => ⟨S200x128, .f32⟩
  | .hbm, ⟨3, _⟩ => ⟨S512x256, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S256x512, .f32⟩
  | .hbm, ⟨8, _⟩ => ⟨S128x512, .f32⟩
  | .hbm, ⟨9, _⟩ => ⟨S384x512, .f32⟩
  | .hbm, ⟨10, _⟩ => ⟨S512, .f32⟩
  | .hbm, ⟨11, _⟩ => ⟨S1x512, .f32⟩
  | .hbm, ⟨12, _⟩ => ⟨S200x384, .f32⟩
  | .local _ .vmem, ⟨0, _⟩ => ⟨S40x128, .f32⟩
  | .local _ .vmem, ⟨1, _⟩ => ⟨S40x128, .f32⟩
  | .local _ .vmem, ⟨2, _⟩ => ⟨S384x512, .f32⟩
  | .local _ .vmem, ⟨3, _⟩ => ⟨S1x512, .f32⟩
  | .local _ .vmem, ⟨4, _⟩ => ⟨S40x384, .f32⟩
  | .local _ .vmem, ⟨5, _⟩ => ⟨S40x384, .f32⟩
  | .local _ .vmem, ⟨6, _⟩ => ⟨S200x128, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S100000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![3, 5], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c1_i32 : BitVec 32 := 1#32
  let v6 : BitVec 1 := Scalar.cmpi .sge arg1 c1_i32
  let c4_i32 : BitVec 32 := 4#32
  let v7 : BitVec 1 := Scalar.cmpi .slt arg1 c4_i32
  let v8 : BitVec 1 := Scalar.andi v6 v7
  let v9 : BitVec 1 := Scalar.andi v5 v8
  let v10 : BitVec 32 := Scalar.extui v9
  let c0_i32_3 : BitVec 32 := 0#32
  let v11 : BitVec 1 := Scalar.cmpi .ne v10 c0_i32_3
  v11

def k0_off1 (i : grid0.Coords) : Fin 1 → Nat :=
  let arg1 : BitVec 32 := BitVec.ofNat 32 (i 1).val
  let c1_i32_67 : BitVec 32 := 1#32
  let v172 : BitVec 32 := Scalar.addi arg1 c1_i32_67
  let c2_i32 : BitVec 32 := 2#32
  let c0_i32_70 : BitVec 32 := 0#32
  let v175 : BitVec 1 := Scalar.cmpi .eq c2_i32 c0_i32_70
  let c1_i32_71 : BitVec 32 := 1#32
  let v176 : BitVec 32 := Scalar.select v175 c1_i32_71 c2_i32
  let v177 : BitVec 32 := Scalar.remsi v172 v176
  let c0_i32_73 : BitVec 32 := 0#32
  let v179 : BitVec 1 := Scalar.cmpi .slt v177 c0_i32_73
  let c0_i32_74 : BitVec 32 := 0#32
  let v180 : BitVec 1 := Scalar.cmpi .slt v176 c0_i32_74
  let v181 : BitVec 1 := Scalar.xori v179 v180
  let c0_i32_72 : BitVec 32 := 0#32
  let v178 : BitVec 1 := Scalar.cmpi .ne v177 c0_i32_72
  let v182 : BitVec 1 := Scalar.andi v181 v178
  let v183 : BitVec 32 := Scalar.addi v177 v176
  let v184 : BitVec 32 := Scalar.select v182 v183 v177
  ![v184.toNat]
def k0_off2 (i : grid0.Coords) : Fin 2 → Nat :=
  let arg1 : BitVec 32 := BitVec.ofNat 32 (i 1).val
  let c1_i32_67 : BitVec 32 := 1#32
  let v172 : BitVec 32 := Scalar.addi arg1 c1_i32_67
  let c20000_i32_69 : BitVec 32 := 20000#32
  let v174 : BitVec 32 := Scalar.muli v172 c20000_i32_69
  let c0_i32_75 : BitVec 32 := 0#32
  ![v174.toNat, 0]
def k0_cond3 (i : grid0.Coords) : BitVec 1 :=
  let arg0 : BitVec 32 := BitVec.ofNat 32 (i 0).val
  let c0_i32_4 : BitVec 32 := 0#32
  let v12 : BitVec 1 := Scalar.cmpi .eq arg0 c0_i32_4
  let v13 : BitVec 32 := Scalar.extui v12
  let c0_i32_5 : BitVec 32 := 0#32
  let v14 : BitVec 1 := Scalar.cmpi .ne v13 c0_i32_5
  v14

def k0_off3 (i : grid0.Coords) : Fin 1 → Nat :=
  let arg1 : BitVec 32 := BitVec.ofNat 32 (i 1).val
  let c2_i32 : BitVec 32 := 2#32
  let c0_i32_69 : BitVec 32 := 0#32
  let v174 : BitVec 1 := Scalar.cmpi .eq c2_i32 c0_i32_69
  let c1_i32_70 : BitVec 32 := 1#32
  let v175 : BitVec 32 := Scalar.select v174 c1_i32_70 c2_i32
  let v176 : BitVec 32 := Scalar.remsi arg1 v175
  let c0_i32_72 : BitVec 32 := 0#32
  let v178 : BitVec 1 := Scalar.cmpi .slt v176 c0_i32_72
  let c0_i32_73 : BitVec 32 := 0#32
  let v179 : BitVec 1 := Scalar.cmpi .slt v175 c0_i32_73
  let v180 : BitVec 1 := Scalar.xori v178 v179
  let c0_i32_71 : BitVec 32 := 0#32
  let v177 : BitVec 1 := Scalar.cmpi .ne v176 c0_i32_71
  let v181 : BitVec 1 := Scalar.andi v180 v177
  let v182 : BitVec 32 := Scalar.addi v176 v175
  let v183 : BitVec 32 := Scalar.select v181 v182 v176
  ![v183.toNat]
def k0_off4 (i : grid0.Coords) : Fin 2 → Nat :=
  let arg1 : BitVec 32 := BitVec.ofNat 32 (i 1).val
  let c20000_i32_68 : BitVec 32 := 20000#32
  let v173 : BitVec 32 := Scalar.muli arg1 c20000_i32_68
  let c0_i32_74 : BitVec 32 := 0#32
  ![v173.toNat, 0]
def k0_off5 (i : grid0.Coords) : Fin 2 → Nat :=
  let arg1 : BitVec 32 := BitVec.ofNat 32 (i 1).val
  let c40_i32 : BitVec 32 := 40#32
  let v23 : BitVec 32 := Scalar.muli arg1 c40_i32
  let v24 : Index := Scalar.indexCast v23
  let c0 : Index := 0#32
  ![v24.toNat, 0]
def k0_off6 (i : grid0.Coords) (c0_i32_17 : BitVec 32) : Fin 2 → Nat :=
  let arg1 : BitVec 32 := BitVec.ofNat 32 (i 1).val
  let c20000_i32 : BitVec 32 := 20000#32
  let v53 : BitVec 32 := Scalar.muli arg1 c20000_i32
  let v54 : BitVec 32 := Scalar.addi v53 c0_i32_17
  let v55 : Index := Scalar.indexCast v54
  let c0_18 : Index := 0#32
  ![v55.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S40x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== ReferenceIdeal.lean ====
abbrev S100000x128 : Shape := ⟨2, ![100000, 128]⟩
abbrev S200 : Shape := ⟨1, ![200]⟩
abbrev S200x128 : Shape := ⟨2, ![200, 128]⟩
abbrev S512x256 : Shape := ⟨2, ![512, 256]⟩
abbrev S512x128 : Shape := ⟨2, ![512, 128]⟩
abbrev S512 : Shape := ⟨1, ![512]⟩
abbrev S1 : Shape := ⟨1, ![1]⟩
abbrev S199 : Shape := ⟨1, ![199]⟩
abbrev S_ : Shape := ⟨0, ![]⟩
abbrev S100000 : Shape := ⟨1, ![100000]⟩
abbrev S200x1 : Shape := ⟨2, ![200, 1]⟩
abbrev S100000x1 : Shape := ⟨2, ![100000, 1]⟩
abbrev S1x1 : Shape := ⟨2, ![1, 1]⟩
abbrev S200x256 : Shape := ⟨2, ![200, 256]⟩
abbrev S256x512 : Shape := ⟨2, ![256, 512]⟩
abbrev S200x512 : Shape := ⟨2, ![200, 512]⟩
abbrev S128x512 : Shape := ⟨2, ![128, 512]⟩
abbrev S1x512 : Shape := ⟨2, ![1, 512]⟩
abbrev S1x100000 : Shape := ⟨2, ![1, 100000]⟩
abbrev S200x100000 : Shape := ⟨2, ![200, 100000]⟩
abbrev S200x384 : Shape := ⟨2, ![200, 384]⟩

abbrev nBuf : Space → Nat
  | .hbm => 378
  | .vmem => 0
  | .smem => 0
  | _ => 0

abbrev hbmTy0_0 (i : Nat) : BufTy := match i % 128 with
  | 0 => ⟨S100000x128, .f32⟩
  | 1 => ⟨S200, .i32⟩
  | 2 => ⟨S200x128, .f32⟩
  | 3 => ⟨S512x256, .f32⟩
  | 4 => ⟨S512x128, .f32⟩
  | 5 => ⟨S512, .f32⟩
  | 6 => ⟨S512, .f32⟩
  | 7 => ⟨S200, .i32⟩
  | 8 => ⟨S1, .i32⟩
  | 9 => ⟨S199, .i32⟩
  | 10 => ⟨S200, .i32⟩
  | 11 => ⟨S_, .i32⟩
  | 12 => ⟨S1, .i32⟩
  | 13 => ⟨S_, .i32⟩
  | 14 => ⟨S200, .i32⟩
  | 15 => ⟨S_, .i32⟩
  | 16 => ⟨S_, .i32⟩
  | 17 => ⟨S200, .i32⟩
  | 18 => ⟨S_, .i32⟩
  | 19 => ⟨S100000, .i32⟩
  | 20 => ⟨S_, .i32⟩
  | 21 => ⟨S200, .i32⟩
  | 22 => ⟨S200, .i1⟩
  | 23 => ⟨S_, .i32⟩
  | 24 => ⟨S200, .i32⟩
  | 25 => ⟨S200, .i32⟩
  | 26 => ⟨S200, .i32⟩
  | 27 => ⟨S200x1, .i32⟩
  | 28 => ⟨S_, .i32⟩
  | 29 => ⟨S200, .i32⟩
  | 30 => ⟨S100000, .i32⟩
  | 31 => ⟨S_, .i32⟩
  | 32 => ⟨S_, .i32⟩
  | 33 => ⟨S100000, .i32⟩
  | 34 => ⟨S_, .i32⟩
  | 35 => ⟨S100000, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S1, .i32⟩
  | 46 => ⟨S_, .i32⟩
  | 47 => ⟨S100000x1, .i32⟩
  | 48 => ⟨S100000x1, .i1⟩
  | 49 => ⟨S1x1, .i32⟩
  | 50 => ⟨S100000x1, .i32⟩
  | 51 => ⟨S100000x1, .i1⟩
  | 52 => ⟨S100000x1, .i1⟩
  | 53 => ⟨S_, .i1⟩
  | 54 => ⟨S100000, .i1⟩
  | 55 => ⟨S100000, .i32⟩
  | 56 => ⟨S_, .i32⟩
  | 57 => ⟨S100000, .i32⟩
  | 58 => ⟨S100000, .i32⟩
  | 59 => ⟨S_, .f32⟩
  | 60 => ⟨S200x128, .f32⟩
  | 61 => ⟨S_, .f32⟩
  | 62 => ⟨S200x128, .f32⟩
  | 63 => ⟨S_, .f32⟩
  | 64 => ⟨S200x256, .f32⟩
  | 65 => ⟨S256x512, .f32⟩
  | 66 => ⟨S200x512, .f32⟩
  | 67 => ⟨S128x512, .f32⟩
  | 68 => ⟨S200x512, .f32⟩
  | 69 => ⟨S200x512, .f32⟩
  | 70 => ⟨S1x512, .f32⟩
  | 71 => ⟨S200x512, .f32⟩
  | 72 => ⟨S200x512, .f32⟩
  | 73 => ⟨S1x512, .f32⟩
  | 74 => ⟨S200x512, .f32⟩
  | 75 => ⟨S200x512, .f32⟩
  | 76 => ⟨S200x128, .f32⟩
  | 77 => ⟨S200x128, .f32⟩
  | 78 => ⟨S200x128, .f32⟩
  | 79 => ⟨S200x128, .f32⟩
  | 80 => ⟨S200x128, .f32⟩
  | 81 => ⟨S200x128, .f32⟩
  | 82 => ⟨S_, .f32⟩
  | 83 => ⟨S200x128, .f32⟩
  | 84 => ⟨S200x128, .f32⟩
  | 85 => ⟨S_, .f32⟩
  | 86 => ⟨S200x128, .f32⟩
  | 87 => ⟨S200x128, .f32⟩
  | 88 => ⟨S200x128, .f32⟩
  | 89 => ⟨S200x128, .f32⟩
  | 90 => ⟨S_, .f32⟩
  | 91 => ⟨S200x128, .f32⟩
  | 92 => ⟨S200x128, .f32⟩
  | 93 => ⟨S_, .f32⟩
  | 94 => ⟨S200x128, .f32⟩
  | 95 => ⟨S200x128, .f32⟩
  | 96 => ⟨S200x128, .f32⟩
  | 97 => ⟨S200x128, .f32⟩
  | 98 => ⟨S200x128, .f32⟩
  | 99 => ⟨S_, .f32⟩
  | 100 => ⟨S200x128, .f32⟩
  | 101 => ⟨S200x128, .f32⟩
  | 102 => ⟨S_, .f32⟩
  | 103 => ⟨S200x128, .f32⟩
  | 104 => ⟨S200x128, .f32⟩
  | 105 => ⟨S200x128, .f32⟩
  | 106 => ⟨S200x128, .f32⟩
  | 107 => ⟨S200x128, .f32⟩
  | 108 => ⟨S200x128, .f32⟩
  | 109 => ⟨S200x128, .f32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S100000x128, .f32⟩
  | 119 => ⟨S100000x128, .f32⟩
  | 120 => ⟨S_, .f32⟩
  | 121 => ⟨S100000, .f32⟩
  | 122 => ⟨S1x100000, .i32⟩
  | 123 => ⟨S200, .i32⟩
  | 124 => ⟨S200x1, .i32⟩
  | 125 => ⟨S200x100000, .i32⟩
  | 126 => ⟨S200x100000, .i32⟩
  | 127 => ⟨S200x100000, .i1⟩
  | _ => ⟨S100000x128, .f32⟩

abbrev hbmTy0_1 (i : Nat) : BufTy := match i % 128 with
  | 0 => ⟨S1x100000, .f32⟩
  | 1 => ⟨S_, .f32⟩
  | 2 => ⟨S_, .f32⟩
  | 3 => ⟨S200x100000, .f32⟩
  | 4 => ⟨S200x100000, .f32⟩
  | 5 => ⟨S200x100000, .f32⟩
  | 6 => ⟨S_, .f32⟩
  | 7 => ⟨S200, .f32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000, .f32⟩
  | 17 => ⟨S100000, .f32⟩
  | 18 => ⟨S100000, .f32⟩
  | 19 => ⟨S_, .f32⟩
  | 20 => ⟨S200, .f32⟩
  | 21 => ⟨S100000x1, .i32⟩
  | 22 => ⟨S200, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S_, .f32⟩
  | 37 => ⟨S200x128, .f32⟩
  | 38 => ⟨S100000x1, .i32⟩
  | 39 => ⟨S200x128, .f32⟩
  | 40 => ⟨S200x256, .f32⟩
  | 41 => ⟨S256x512, .f32⟩
  | 42 => ⟨S200x512, .f32⟩
  | 43 => ⟨S128x512, .f32⟩
  | 44 => ⟨S200x512, .f32⟩
  | 45 => ⟨S200x512, .f32⟩
  | 46 => ⟨S1x512, .f32⟩
  | 47 => ⟨S200x512, .f32⟩
  | 48 => ⟨S200x512, .f32⟩
  | 49 => ⟨S1x512, .f32⟩
  | 50 => ⟨S200x512, .f32⟩
  | 51 => ⟨S200x512, .f32⟩
  | 52 => ⟨S200x128, .f32⟩
  | 53 => ⟨S200x128, .f32⟩
  | 54 => ⟨S200x128, .f32⟩
  | 55 => ⟨S200x128, .f32⟩
  | 56 => ⟨S200x128, .f32⟩
  | 57 => ⟨S200x128, .f32⟩
  | 58 => ⟨S_, .f32⟩
  | 59 => ⟨S200x128, .f32⟩
  | 60 => ⟨S200x128, .f32⟩
  | 61 => ⟨S_, .f32⟩
  | 62 => ⟨S200x128, .f32⟩
  | 63 => ⟨S200x128, .f32⟩
  | 64 => ⟨S200x128, .f32⟩
  | 65 => ⟨S200x128, .f32⟩
  | 66 => ⟨S_, .f32⟩
  | 67 => ⟨S200x128, .f32⟩
  | 68 => ⟨S200x128, .f32⟩
  | 69 => ⟨S_, .f32⟩
  | 70 => ⟨S200x128, .f32⟩
  | 71 => ⟨S200x128, .f32⟩
  | 72 => ⟨S200x128, .f32⟩
  | 73 => ⟨S200x128, .f32⟩
  | 74 => ⟨S200x128, .f32⟩
  | 75 => ⟨S_, .f32⟩
  | 76 => ⟨S200x128, .f32⟩
  | 77 => ⟨S200x128, .f32⟩
  | 78 => ⟨S_, .f32⟩
  | 79 => ⟨S200x128, .f32⟩
  | 80 => ⟨S200x128, .f32⟩
  | 81 => ⟨S200x128, .f32⟩
  | 82 => ⟨S200x128, .f32⟩
  | 83 => ⟨S200x128, .f32⟩
  | 84 => ⟨S200x128, .f32⟩
  | 85 => ⟨S200x128, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x128, .f32⟩
  | 95 => ⟨S100000x128, .f32⟩
  | 96 => ⟨S_, .f32⟩
  | 97 => ⟨S100000, .f32⟩
  | 98 => ⟨S1x100000, .i32⟩
  | 99 => ⟨S200, .i32⟩
  | 100 => ⟨S200x1, .i32⟩
  | 101 => ⟨S200x100000, .i32⟩
  | 102 => ⟨S200x100000, .i32⟩
  | 103 => ⟨S200x100000, .i1⟩
  | 104 => ⟨S1x100000, .f32⟩
  | 105 => ⟨S_, .f32⟩
  | 106 => ⟨S_, .f32⟩
  | 107 => ⟨S200x100000, .f32⟩
  | 108 => ⟨S200x100000, .f32⟩
  | 109 => ⟨S200x100000, .f32⟩
  | 110 => ⟨S_, .f32⟩
  | 111 => ⟨S200, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000, .f32⟩
  | 121 => ⟨S100000, .f32⟩
  | 122 => ⟨S100000, .f32⟩
  | 123 => ⟨S_, .f32⟩
  | 124 => ⟨S200, .f32⟩
  | 125 => ⟨S100000x1, .i32⟩
  | 126 => ⟨S200, .f32⟩
  | 127 => ⟨S_, .i32⟩
  | _ => ⟨S100000x128, .f32⟩

abbrev hbmTy0_2 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S100000, .f32⟩
  | 8 => ⟨S100000, .f32⟩
  | 9 => ⟨S100000x1, .f32⟩
  | 10 => ⟨S100000x128, .f32⟩
  | 11 => ⟨S100000x128, .f32⟩
  | 12 => ⟨S_, .f32⟩
  | 13 => ⟨S200x128, .f32⟩
  | 14 => ⟨S100000x1, .i32⟩
  | 15 => ⟨S200x128, .f32⟩
  | 16 => ⟨S200x256, .f32⟩
  | 17 => ⟨S256x512, .f32⟩
  | 18 => ⟨S200x512, .f32⟩
  | 19 => ⟨S128x512, .f32⟩
  | 20 => ⟨S200x512, .f32⟩
  | 21 => ⟨S200x512, .f32⟩
  | 22 => ⟨S1x512, .f32⟩
  | 23 => ⟨S200x512, .f32⟩
  | 24 => ⟨S200x512, .f32⟩
  | 25 => ⟨S1x512, .f32⟩
  | 26 => ⟨S200x512, .f32⟩
  | 27 => ⟨S200x512, .f32⟩
  | 28 => ⟨S200x128, .f32⟩
  | 29 => ⟨S200x128, .f32⟩
  | 30 => ⟨S200x128, .f32⟩
  | 31 => ⟨S200x128, .f32⟩
  | 32 => ⟨S200x128, .f32⟩
  | 33 => ⟨S200x128, .f32⟩
  | 34 => ⟨S_, .f32⟩
  | 35 => ⟨S200x128, .f32⟩
  | 36 => ⟨S200x128, .f32⟩
  | 37 => ⟨S_, .f32⟩
  | 38 => ⟨S200x128, .f32⟩
  | 39 => ⟨S200x128, .f32⟩
  | 40 => ⟨S200x128, .f32⟩
  | 41 => ⟨S200x128, .f32⟩
  | 42 => ⟨S_, .f32⟩
  | 43 => ⟨S200x128, .f32⟩
  | 44 => ⟨S200x128, .f32⟩
  | 45 => ⟨S_, .f32⟩
  | 46 => ⟨S200x128, .f32⟩
  | 47 => ⟨S200x128, .f32⟩
  | 48 => ⟨S200x128, .f32⟩
  | 49 => ⟨S200x128, .f32⟩
  | 50 => ⟨S200x128, .f32⟩
  | 51 => ⟨S_, .f32⟩
  | 52 => ⟨S200x128, .f32⟩
  | 53 => ⟨S200x128, .f32⟩
  | 54 => ⟨S_, .f32⟩
  | 55 => ⟨S200x128, .f32⟩
  | 56 => ⟨S200x128, .f32⟩
  | 57 => ⟨S200x128, .f32⟩
  | 58 => ⟨S200x128, .f32⟩
  | 59 => ⟨S200x128, .f32⟩
  | 60 => ⟨S200x128, .f32⟩
  | 61 => ⟨S200x128, .f32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000x128, .f32⟩
  | 71 => ⟨S100000x128, .f32⟩
  | 72 => ⟨S_, .f32⟩
  | 73 => ⟨S100000, .f32⟩
  | 74 => ⟨S1x100000, .i32⟩
  | 75 => ⟨S200, .i32⟩
  | 76 => ⟨S200x1, .i32⟩
  | 77 => ⟨S200x100000, .i32⟩
  | 78 => ⟨S200x100000, .i32⟩
  | 79 => ⟨S200x100000, .i1⟩
  | 80 => ⟨S1x100000, .f32⟩
  | 81 => ⟨S_, .f32⟩
  | 82 => ⟨S_, .f32⟩
  | 83 => ⟨S200x100000, .f32⟩
  | 84 => ⟨S200x100000, .f32⟩
  | 85 => ⟨S200x100000, .f32⟩
  | 86 => ⟨S_, .f32⟩
  | 87 => ⟨S200, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000, .f32⟩
  | 97 => ⟨S100000, .f32⟩
  | 98 => ⟨S100000, .f32⟩
  | 99 => ⟨S_, .f32⟩
  | 100 => ⟨S200, .f32⟩
  | 101 => ⟨S100000x1, .i32⟩
  | 102 => ⟨S200, .f32⟩
  | 103 => ⟨S_, .i32⟩
  | 104 => ⟨S100000, .i32⟩
  | 105 => ⟨S100000, .i1⟩
  | 106 => ⟨S_, .i32⟩
  | 107 => ⟨S100000, .i32⟩
  | 108 => ⟨S100000, .i32⟩
  | 109 => ⟨S100000, .i32⟩
  | 110 => ⟨S100000x1, .i32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S_, .f32⟩
  | 117 => ⟨S200x128, .f32⟩
  | 118 => ⟨S100000x1, .i32⟩
  | 119 => ⟨S200x128, .f32⟩
  | 120 => ⟨S200x256, .f32⟩
  | 121 => ⟨S200x384, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_call1_call0_c : Ref sig .tc := ⟨.hbm, 15, rfl⟩
abbrev main_call1_call0_v0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_call2_call0_c : Ref sig .tc := ⟨.hbm, 31, rfl⟩
abbrev main_call2_call0_v0 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_c_4 : Ref sig .tc := ⟨.hbm, 56, rfl⟩
abbrev main_call3_v14 : Ref sig .tc := ⟨.hbm, 57, rfl⟩
abbrev main_v17 : Ref sig .tc := ⟨.hbm, 58, rfl⟩
abbrev main_cst : Ref sig .tc := ⟨.hbm, 59, rfl⟩
abbrev main_v18 : Ref sig .tc := ⟨.hbm, 60, rfl⟩
abbrev main_cst_6 : Ref sig .tc := ⟨.hbm, 61, rfl⟩
abbrev main_v19 : Ref sig .tc := ⟨.hbm, 62, rfl⟩
abbrev main_cst_7 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_8 : Ref sig .tc := ⟨.hbm, 82, rfl⟩
abbrev main_v38 : Ref sig .tc := ⟨.hbm, 83, rfl⟩
abbrev main_v39 : Ref sig .tc := ⟨.hbm, 84, rfl⟩
abbrev main_cst_9 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_10 : Ref sig .tc := ⟨.hbm, 90, rfl⟩
abbrev main_v44 : Ref sig .tc := ⟨.hbm, 91, rfl⟩
abbrev main_v45 : Ref sig .tc := ⟨.hbm, 92, rfl⟩
abbrev main_cst_11 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_12 : Ref sig .tc := ⟨.hbm, 99, rfl⟩
abbrev main_v51 : Ref sig .tc := ⟨.hbm, 100, rfl⟩
abbrev main_v52 : Ref sig .tc := ⟨.hbm, 101, rfl⟩
abbrev main_cst_13 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_14 : Ref sig .tc := ⟨.hbm, 110, rfl⟩
abbrev main_v60 : Ref sig .tc := ⟨.hbm, 111, rfl⟩
abbrev main_v61 : Ref sig .tc := ⟨.hbm, 112, rfl⟩
abbrev main_c_15 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_16 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_17 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_v76 : Ref sig .tc := ⟨.hbm, 133, rfl⟩
abbrev main_cst_18 : Ref sig .tc := ⟨.hbm, 134, rfl⟩
abbrev main_v77 : Ref sig .tc := ⟨.hbm, 135, rfl⟩
abbrev main_c_19 : Ref sig .tc := ⟨.hbm, 136, rfl⟩
abbrev main_v78 : Ref sig .tc := ⟨.hbm, 137, rfl⟩
abbrev main_v79 : Ref sig .tc := ⟨.hbm, 138, rfl⟩
abbrev main_c_20 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_21 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_c_22 : Ref sig .tc := ⟨.hbm, 151, rfl⟩
abbrev main_v90 : Ref sig .tc := ⟨.hbm, 152, rfl⟩
abbrev main_v91 : Ref sig .tc := ⟨.hbm, 153, rfl⟩
abbrev main_c_23 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_24 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_25 : Ref sig .tc := ⟨.hbm, 186, rfl⟩
abbrev main_v122 : Ref sig .tc := ⟨.hbm, 187, rfl⟩
abbrev main_v123 : Ref sig .tc := ⟨.hbm, 188, rfl⟩
abbrev main_cst_26 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_cst_27 : Ref sig .tc := ⟨.hbm, 194, rfl⟩
abbrev main_v128 : Ref sig .tc := ⟨.hbm, 195, rfl⟩
abbrev main_v129 : Ref sig .tc := ⟨.hbm, 196, rfl⟩
abbrev main_cst_28 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_29 : Ref sig .tc := ⟨.hbm, 203, rfl⟩
abbrev main_v135 : Ref sig .tc := ⟨.hbm, 204, rfl⟩
abbrev main_v136 : Ref sig .tc := ⟨.hbm, 205, rfl⟩
abbrev main_cst_30 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_c_31 : Ref sig .tc := ⟨.hbm, 214, rfl⟩
abbrev main_v144 : Ref sig .tc := ⟨.hbm, 215, rfl⟩
abbrev main_v145 : Ref sig .tc := ⟨.hbm, 216, rfl⟩
abbrev main_c_32 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_cst_33 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_cst_34 : Ref sig .tc := ⟨.hbm, 233, rfl⟩
abbrev main_call5_v0 : Ref sig .tc := ⟨.hbm, 234, rfl⟩
abbrev main_call5_v1 : Ref sig .tc := ⟨.hbm, 235, rfl⟩
abbrev main_call5_v2 : Ref sig .tc := ⟨.hbm, 236, rfl⟩
abbrev main_v160 : Ref sig .tc := ⟨.hbm, 237, rfl⟩
abbrev main_cst_35 : Ref sig .tc := ⟨.hbm, 238, rfl⟩
abbrev main_v161 : Ref sig .tc := ⟨.hbm, 239, rfl⟩
abbrev main_c_36 : Ref sig .tc := ⟨.hbm, 240, rfl⟩
abbrev main_v162 : Ref sig .tc := ⟨.hbm, 241, rfl⟩
abbrev main_v163 : Ref sig .tc := ⟨.hbm, 242, rfl⟩
abbrev main_c_37 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_cst_38 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_c_39 : Ref sig .tc := ⟨.hbm, 255, rfl⟩
abbrev main_v174 : Ref sig .tc := ⟨.hbm, 256, rfl⟩
abbrev main_v175 : Ref sig .tc := ⟨.hbm, 257, rfl⟩
abbrev main_c_40 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_cst_41 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_cst_42 : Ref sig .tc := ⟨.hbm, 290, rfl⟩
abbrev main_v206 : Ref sig .tc := ⟨.hbm, 291, rfl⟩
abbrev main_v207 : Ref sig .tc := ⟨.hbm, 292, rfl⟩
abbrev main_cst_43 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_cst_44 : Ref sig .tc := ⟨.hbm, 298, rfl⟩
abbrev main_v212 : Ref sig .tc := ⟨.hbm, 299, rfl⟩
abbrev main_v213 : Ref sig .tc := ⟨.hbm, 300, rfl⟩
abbrev main_cst_45 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_cst_46 : Ref sig .tc := ⟨.hbm, 307, rfl⟩
abbrev main_v219 : Ref sig .tc := ⟨.hbm, 308, rfl⟩
abbrev main_v220 : Ref sig .tc := ⟨.hbm, 309, rfl⟩
abbrev main_cst_47 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_c_48 : Ref sig .tc := ⟨.hbm, 318, rfl⟩
abbrev main_v228 : Ref sig .tc := ⟨.hbm, 319, rfl⟩
abbrev main_v229 : Ref sig .tc := ⟨.hbm, 320, rfl⟩
abbrev main_c_49 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_cst_50 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_cst_51 : Ref sig .tc := ⟨.hbm, 337, rfl⟩
abbrev main_call6_v0 : Ref sig .tc := ⟨.hbm, 338, rfl⟩
abbrev main_call6_v1 : Ref sig .tc := ⟨.hbm, 339, rfl⟩
abbrev main_call6_v2 : Ref sig .tc := ⟨.hbm, 340, rfl⟩
abbrev main_v244 : Ref sig .tc := ⟨.hbm, 341, rfl⟩
abbrev main_cst_52 : Ref sig .tc := ⟨.hbm, 342, rfl⟩
abbrev main_v245 : Ref sig .tc := ⟨.hbm, 343, rfl⟩
abbrev main_c_53 : Ref sig .tc := ⟨.hbm, 344, rfl⟩
abbrev main_v246 : Ref sig .tc := ⟨.hbm, 345, rfl⟩
abbrev main_v247 : Ref sig .tc := ⟨.hbm, 346, rfl⟩
abbrev main_c_54 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_cst_55 : Ref sig .tc := ⟨.hbm, 355, rfl⟩
abbrev main_v255 : Ref sig .tc := ⟨.hbm, 356, rfl⟩
abbrev main_v256 : Ref sig .tc := ⟨.hbm, 357, rfl⟩
abbrev main_v257 : Ref sig .tc := ⟨.hbm, 358, rfl⟩
abbrev main_c_56 : Ref sig .tc := ⟨.hbm, 359, rfl⟩
abbrev main_v258 : Ref sig .tc := ⟨.hbm, 360, rfl⟩
abbrev main_v259 : Ref sig .tc := ⟨.hbm, 361, rfl⟩
abbrev main_c_57 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_cst_58 : Ref sig .tc := ⟨.hbm, 372, rfl⟩
abbrev main_v269 : Ref sig .tc := ⟨.hbm, 373, rfl⟩
abbrev main_v270 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩

abbrev nD : Nat := 1
abbrev τ : Topo := Topo.v7x

variable {F : FTy → Type} [FloatOps F]
-- ==== Proof.KernelIdeal.Dma.lean ====
/-
  The kernel's own transfers, point by point: the streamed array arrives in the scratch `cc0_scratch4` in five chunks of
  20000 rows, each started one grid point before it is needed, on two semaphore cells used in turn. This module names the
  chunks, states what is held before each grid point (`ring`), names the state the recurrent scratch buffers carry from
  point to point (`St`), and proves the first part of the body — the transfers, the zeroing at the first point, the LSTM
  step at the first block of every iteration — at each kind of grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.Tactic.Stretches
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The buffers and the chunks -/

/-- The recurrent scratch buffers: the hidden state, the cell state, the query, the readout. -/
abbrev hM : Memref sig .tc .vmem S200x128 .f32 := Memref.whole cc0_scratch0
abbrev cM : Memref sig .tc .vmem S200x128 .f32 := Memref.whole cc0_scratch1
abbrev qM : Memref sig .tc .vmem S200x128 .f32 := Memref.whole cc0_scratch2
abbrev rM : Memref sig .tc .vmem S200x128 .f32 := Memref.whole cc0_scratch3
/-- The scratch the streamed array lands in, and the streamed array. -/
abbrev fvM : Memref sig .tc .vmem S100000x128 .f32 := Memref.whole cc0_scratch4
abbrev ftM : Memref sig .tc .hbm S100000x128 .f32 := Memref.whole main_arg0

theorem inbK (k : Fin 5) : ∀ a, (![20000 * k.val, 0] : Fin 2 → ℕ) a + S20000x128.size a ≤ S100000x128.size a := by
  revert k; decide

/-- Chunk `k` of the scratch and of the array: rows `20000 k` to `20000 k + 19999`. -/
abbrev dstM (k : Fin 5) : Memref sig .tc .vmem S20000x128 .f32 :=
  fvM.slice (Rect.unit (s := S100000x128) ![20000 * k.val, 0] S20000x128.size (inbK k)) (fun _ => rfl)
abbrev srcM (k : Fin 5) : Memref sig .tc .hbm S20000x128 .f32 :=
  ftM.slice (Rect.unit (s := S100000x128) ![20000 * k.val, 0] S20000x128.size (inbK k)) (fun _ => rfl)

abbrev BufAt (c : Dev nD) {sp : Space} {S : Shape} {e : EltTy} (M : Memref sig .tc sp S e) : Type := Buf (Elt F) (M.view.loc (c : Thread nD τ))
/-- A memref's own elements, held outright at contents `f`. -/
abbrev ptAt (c : Dev nD) {sp : Space} {S : Shape} {e : EltTy} (M : Memref sig .tc sp S e) (f : BufAt (F := F) c M) : sProp 𝕄 :=
  M.view.loc (c : Thread nD τ) ↦[M.view.set]{fullShare} f

/-- The streamed array's contents as contents of the scratch it lands in. -/
def landedF (c : Dev nD) (ff : BufAt (F := F) c ftM) : BufAt (F := F) c fvM := fun x => ff x

/-- A chunk filled with the array's chunk holds what the array holds there, whatever it held before. -/
theorem landed_chunk (c : Dev nD) (k : Fin 5) (ff : BufAt (F := F) c ftM) (f : BufAt (F := F) c fvM) :
    (ptAt c (dstM k) ((dstM k).view.writes (Elt F) f [⟨Rect.whole S20000x128, ReadAs.same.apply ((srcM k).view.read (Elt F) ff)⟩]) : sProp 𝕄)
      = ptAt c (dstM k) (landedF c ff) := by
  refine pointsTo_congr fun i hi => ?_
  obtain ⟨z, -, rfl⟩ := Finset.mem_map.mp hi
  rw [← View.write_univ_eq_writes_whole, View.writes_nil]
  refine (View.write_emb_of_mem (v := (dstM k).view) f _ (Finset.mem_univ z)).trans ?_
  rfl

/-! ## What the transfers leave in hand before each grid point -/

section Ring
variable (c : Dev nD) (ff : BufAt (F := F) c ftM)

abbrev free (k : Fin 5) : sProp 𝕄 := iprop(∃ f, ptAt c (dstM k) f)
abbrev land (k : Fin 5) : sProp 𝕄 := ptAt c (dstM k) (landedF c ff)
abbrev home (k : Fin 5) : sProp 𝕄 := ptAt c (srcM k) ff
abbrev cell0 : sProp 𝕄 := semVal ((c : Thread nD τ), SemLoc.dma 6) 0
abbrev cell1 : sProp 𝕄 := semVal ((c : Thread nD τ), SemLoc.dma 7) 0
/-- Chunk `k` in flight on a cell. -/
abbrev flying (k : Fin 5) (s : SemLoc sig) : sProp 𝕄 :=
  iprop(∃ f, Transfers.Flight (countersEmb (U := Pipeline.UD sig nD τ)) (c : Thread nD τ) s () 320000
    iprop((ptAt c (dstM k) ((dstM k).view.writes (Elt F) f [⟨Rect.whole S20000x128, ReadAs.same.apply ((srcM k).view.read (Elt F) ff)⟩]))
      ∗ ptAt c (srcM k) ff))

/-- What is held before grid point `t`: before the first point everything is at home; before points 1 to 4 the chunks
    below `t` have landed and chunk `t` is in flight; from point 5 on every chunk has landed. -/
def ring : ℕ → sProp 𝕄
  | 0 => iprop(free c 0 ∗ free c 1 ∗ free c 2 ∗ free c 3 ∗ free c 4
      ∗ home c ff 0 ∗ home c ff 1 ∗ home c ff 2 ∗ home c ff 3 ∗ home c ff 4 ∗ cell0 c ∗ cell1 c)
  | 1 => iprop(land c ff 0 ∗ free c 2 ∗ free c 3 ∗ free c 4
      ∗ home c ff 0 ∗ home c ff 2 ∗ home c ff 3 ∗ home c ff 4 ∗ cell0 c ∗ flying c ff 1 (SemLoc.dma 7))
  | 2 => iprop(land c ff 0 ∗ land c ff 1 ∗ free c 3 ∗ free c 4
      ∗ home c ff 0 ∗ home c ff 1 ∗ home c ff 3 ∗ home c ff 4 ∗ cell1 c ∗ flying c ff 2 (SemLoc.dma 6))
  | 3 => iprop(land c ff 0 ∗ land c ff 1 ∗ land c ff 2 ∗ free c 4
      ∗ home c ff 0 ∗ home c ff 1 ∗ home c ff 2 ∗ home c ff 4 ∗ cell0 c ∗ flying c ff 3 (SemLoc.dma 7))
  | 4 => iprop(land c ff 0 ∗ land c ff 1 ∗ land c ff 2 ∗ land c ff 3
      ∗ home c ff 0 ∗ home c ff 1 ∗ home c ff 2 ∗ home c ff 3 ∗ cell1 c ∗ flying c ff 4 (SemLoc.dma 6))
  | _ + 5 => iprop(land c ff 0 ∗ land c ff 1 ∗ land c ff 2 ∗ land c ff 3 ∗ land c ff 4
      ∗ home c ff 0 ∗ home c ff 1 ∗ home c ff 2 ∗ home c ff 3 ∗ home c ff 4 ∗ cell0 c ∗ cell1 c)

theorem ring_0 : ring c ff 0 = iprop(free c 0 ∗ free c 1 ∗ free c 2 ∗ free c 3 ∗ free c 4
      ∗ home c ff 0 ∗ home c ff 1 ∗ home c ff 2 ∗ home c ff 3 ∗ home c ff 4 ∗ cell0 c ∗ cell1 c) := rfl
theorem ring_1 : ring c ff 1 = iprop(land c ff 0 ∗ free c 2 ∗ free c 3 ∗ free c 4
      ∗ home c ff 0 ∗ home c ff 2 ∗ home c ff 3 ∗ home c ff 4 ∗ cell0 c ∗ flying c ff 1 (SemLoc.dma 7)) := rfl
theorem ring_2 : ring c ff 2 = iprop(land c ff 0 ∗ land c ff 1 ∗ free c 3 ∗ free c 4
      ∗ home c ff 0 ∗ home c ff 1 ∗ home c ff 3 ∗ home c ff 4 ∗ cell1 c ∗ flying c ff 2 (SemLoc.dma 6)) := rfl
theorem ring_3 : ring c ff 3 = iprop(land c ff 0 ∗ land c ff 1 ∗ land c ff 2 ∗ free c 4
      ∗ home c ff 0 ∗ home c ff 1 ∗ home c ff 2 ∗ home c ff 4 ∗ cell0 c ∗ flying c ff 3 (SemLoc.dma 7)) := rfl
theorem ring_4 : ring c ff 4 = iprop(land c ff 0 ∗ land c ff 1 ∗ land c ff 2 ∗ land c ff 3
      ∗ home c ff 0 ∗ home c ff 1 ∗ home c ff 2 ∗ home c ff 3 ∗ cell1 c ∗ flying c ff 4 (SemLoc.dma 6)) := rfl
theorem ring_5 (n : ℕ) : ring c ff (n + 5) = iprop(land c ff 0 ∗ land c ff 1 ∗ land c ff 2 ∗ land c ff 3 ∗ land c ff 4
      ∗ home c ff 0 ∗ home c ff 1 ∗ home c ff 2 ∗ home c ff 3 ∗ home c ff 4 ∗ cell0 c ∗ cell1 c) := rfl

end Ring

/-! ## The recurrent state -/

/-- What the four recurrent scratch buffers hold. -/
structure St (F : FTy → Type) where
  h : Vec F S200x128 .f32
  c : Vec F S200x128 .f32
  q : Vec F S200x128 .f32
  r : Vec F S200x128 .f32

/-- The state the first grid point stores before anything is computed. -/
def St.zero : St F := ⟨k0_pay9, k0_pay10, k0_pay11, k0_pay12⟩

/-- The LSTM step, by the body's own payloads. -/
def St.lstm (w : Vec F S384x512 .f32) (b : Vec F S1x512 .f32) (s : St F) : St F where
  h := k0_pay15 s.c (k0_pay5 s.h s.q s.r w b) (k0_pay6 s.h s.q s.r w b) (k0_pay7 s.h s.q s.r w b) (k0_pay8 s.h s.q s.r w b)
  c := k0_pay16 s.c (k0_pay5 s.h s.q s.r w b) (k0_pay6 s.h s.q s.r w b) (k0_pay7 s.h s.q s.r w b)
  q := k0_pay17 s.c (k0_pay5 s.h s.q s.r w b) (k0_pay6 s.h s.q s.r w b) (k0_pay7 s.h s.q s.r w b) (k0_pay8 s.h s.q s.r w b)
  r := s.r

/-- The four recurrent scratch buffers held at a state. -/
abbrev scr (c : Dev nD) (s : St F) : sProp 𝕄 :=
  iprop(owns (c : Thread nD τ) hM fullShare s.h ∗ owns (c : Thread nD τ) cM fullShare s.c
    ∗ owns (c : Thread nD τ) qM fullShare s.q ∗ owns (c : Thread nD τ) rM fullShare s.r)
abbrev scrAny (c : Dev nD) : sProp 𝕄 :=
  iprop((∃ d, owns (c : Thread nD τ) hM fullShare d) ∗ (∃ d, owns (c : Thread nD τ) cM fullShare d)
    ∗ (∃ d, owns (c : Thread nD τ) qM fullShare d) ∗ (∃ d, owns (c : Thread nD τ) rM fullShare d))

/-- The query rows of the point's block. -/
abbrev qrows (i : grid0.Coords) (q : Vec F S200x128 .f32) : Vec F S40x128 .f32 :=
  View.ld q (Rect.unit (s := S200x128) (k0_off5 i) S40x128.size (k0_off5_inb i))

/-- What the first part of the body returns, from the query it finds. -/
abbrev ret2 (i : grid0.Coords) (q : Vec F S200x128 .f32) :
    Σ' (arg1 : BitVec 32) (v25 : Vec F S40x128 .f32) (v26 : IVec S8x4000 32) (c500_i32 : BitVec 32) (v28 : IVec S8x4000 32) (v31 : IVec S8x4000 32), IVec S8x4000 1 :=
  ⟨BitVec.ofNat 32 (i 1).val, qrows i q, iota .tc S8x4000 32 [1] iota_S8x4000_d1_w32, 500#32, k0_pay18, k0_pay19, k0_pay20⟩

/-- The same of a load stated over the buffer's contents. -/
theorem readAt_store {v : View sig .tc .vmem S200x128 .f32} (f : v.ty.Contents (Elt F)) {off : Fin 2 → ℕ} (inb : ∀ a, off a + S200x128.size a ≤ S200x128.size a)
    (w : (Rect.unit (s := S200x128) off S200x128.size inb).shape.Idx → Elt F .f32) (L : List (View.Piece (Elt F) S200x128 .f32)) (r : Rect S200x128) :
    v.readAt (Elt F) r.toLoadRect (v.writes (Elt F) f (⟨Rect.unit (s := S200x128) off S200x128.size inb, w⟩ :: L)) = View.ld w r := by
  show View.ld (v.read (Elt F) (v.writes (Elt F) f (⟨Rect.unit (s := S200x128) off S200x128.size inb, w⟩ :: L))) r = _
  rw [View.read_writes_full]

/-- What the first part returns, at any spelling of the query rows. -/
theorem ret_congr {i : grid0.Coords} {q : Vec F S200x128 .f32}
    (K : (Σ' (arg1 : BitVec 32) (v25 : Vec F S40x128 .f32) (v26 : IVec S8x4000 32) (c500_i32 : BitVec 32) (v28 : IVec S8x4000 32) (v31 : IVec S8x4000 32), IVec S8x4000 1) → sProp 𝕄)
    {v : Vec F S40x128 .f32} (h : v = qrows i q) :
    K (ret2 i q) ⊢ K ⟨BitVec.ofNat 32 (i 1).val, v, iota .tc S8x4000 32 [1] iota_S8x4000_d1_w32, 500#32, k0_pay18, k0_pay19, k0_pay20⟩ := by
  rw [h]

/-- A load of a buffer wholly stored before reads the payload. -/
theorem readCov_whole (v : View sig .tc .vmem S200x128 .f32) (w : Vec F S200x128 .f32) :
    v.readCov [⟨Rect.unit (s := S200x128) ![0, 0] ![200, 128] inb_S200x128_S200x128_0_0, w⟩]
      (Rect.unit (s := S200x128) ![0, 0] ![200, 128] inb_S200x128_S200x128_0_0).toLoadRect = w :=
  View.readCov_full v _ _ w []

/-- A load of part of a buffer wholly stored before reads the payload there. -/
theorem readCov_store {v : View sig .tc .vmem S200x128 .f32} {off : Fin 2 → ℕ} (inb : ∀ a, off a + S200x128.size a ≤ S200x128.size a)
    (w : (Rect.unit (s := S200x128) off S200x128.size inb).shape.Idx → Elt F .f32) (L : List (View.Piece (Elt F) S200x128 .f32)) (r : Rect S200x128) :
    v.readCov (⟨Rect.unit (s := S200x128) off S200x128.size inb, w⟩ :: L) r.toLoadRect = View.ld w r := by
  show View.ld (v.read (Elt F) (v.writes (Elt F) v.junk (⟨Rect.unit (s := S200x128) off S200x128.size inb, w⟩ :: L))) r = _
  rw [View.read_writes_full]

/-! ## The first part of the body -/

section Part
variable (c : Dev nD) (a3 : Memref sig .tc .vmem S40x128 .f32) (ha3 : a3.IsWhole) (a4 : Memref sig .tc .vmem S384x512 .f32) (ha4 : a4.IsWhole)
    (a5 : Memref sig .tc .vmem S1x512 .f32) (ha5 : a5.IsWhole) (a6 : Memref sig .tc .vmem S40x384 .f32) (ha6 : a6.IsWhole)
    (ff : BufAt (F := F) c ftM) (w : Vec F S384x512 .f32) (b : Vec F S1x512 .f32)

/-- The first part of the body at grid coordinates `i`. -/
abbrev part2At (i : grid0.Coords) := k0_part2 (F := F) i ftM (Memref.isWhole_whole _) a3 ha3 a4 ha4 a5 ha5 a6 ha6 hM (Memref.isWhole_whole _) cM (Memref.isWhole_whole _)
          qM (Memref.isWhole_whole _) rM (Memref.isWhole_whole _) fvM (Memref.isWhole_whole _) cc0_scratch5

/-- The two weight windows' staging buffers. -/
abbrev wts : sProp 𝕄 := iprop(owns (c : Thread nD τ) a4 fullShare w ∗ owns (c : Thread nD τ) a5 fullShare b)

/-- Grid point 0. -/
theorem part2_0 (W : Waits sig Unit) (K : _ → sProp 𝕄) :
    iprop(scrAny c ∗ ring c ff 0 ∗ wts c a4 a5 w b ∗ owes (c : Thread nD τ) 0 W
        ∗ (iprop(scr c (St.lstm w b St.zero) ∗ ring c ff 1 ∗ wts c a4 a5 w b ∗ (∃ W', owes (c : Thread nD τ) 0 W')) -∗ K (ret2 (grid0.coords t0_0) (St.lstm w b St.zero).q)))
      ⊢ wp frame (wpE (defs₀ (F := F)) Variants.none c none) Set.univ (part2At a3 ha3 a4 ha4 a5 ha5 a6 ha6 (grid0.coords t0_0)) K := by
  unfold part2At
  have h2 : ¬ (k0_cond2 (grid0.coords t0_0) = 1#1) := by decide
  have h3 : k0_cond3 (grid0.coords t0_0) = 1#1 := by decide
  have e3 : k0_off3 (grid0.coords t0_0) = ![0] := by decide
  have e4 : k0_off4 (grid0.coords t0_0) = ![0, 0] := by decide
  rw [k0_part2_eq_skeleton]; unfold k0_part2_skel
  simp only [k0_part1_eq_skeleton]; unfold k0_part1_skel
  simp only [e3, e4]
  rw [ring_0]; unfold scrAny wts owns
  iintro ⟨⟨⟨%dh, %gh, -, Hh⟩, ⟨%dc, %gc, -, Hc⟩, ⟨%dq, %gq, -, Hq⟩, ⟨%dr, %gr, -, Hr⟩⟩, ⟨⟨%f0, Hd0⟩, ⟨%f1, Hd1⟩, ⟨%f2, Hd2⟩, ⟨%f3, Hd3⟩, ⟨%f4, Hd4⟩, Hs0, Hs1, Hs2, Hs3, Hs4, Hc0, Hc1⟩, ⟨⟨%gw, %Ew, Hw⟩, ⟨%gb, %Eb, Hb⟩⟩, HW, HK⟩
  sl_exec
  have hE : View.readAt (Elt F) a4.view (Rect.unit ![0, 0] ![384, 512] inb_S384x512_S384x512_0_0).toLoadRect gw = w :=
    (View.readAt_full a4.view gw _).trans Ew
  have hF : View.readAt (Elt F) a5.view (Rect.unit ![0, 0] ![1, 512] inb_S1x512_S1x512_0_0).toLoadRect gb = b :=
    (View.readAt_full a5.view gb _).trans Eb
  rw [wp_ret]; imodintro
  iapply (ret_congr (i := grid0.coords t0_0) (q := (St.lstm w b St.zero).q) K ?_)
  · sl_open_run; rw [readCov_store]; simp only [readCov_whole, hE, hF, qrows, St.lstm, St.zero]
  iapply HK
  try unfold scr
  try unfold wts
  try unfold owns
  isplitl [Hh Hc Hq Hr]
  · isplitl [Hh]; · iexists _; isplitr; swap; · iexact Hh
                    ipureintro; sl_open_run; rw [View.read_writes_full]; simp only [readCov_whole, hE, hF, St.lstm, St.zero]
    isplitl [Hc]; · iexists _; isplitr; swap; · iexact Hc
                    ipureintro; sl_open_run; rw [View.read_writes_full]; simp only [readCov_whole, hE, hF, St.lstm, St.zero]
    isplitl [Hq]; · iexists _; isplitr; swap; · iexact Hq
                    ipureintro; sl_open_run; rw [View.read_writes_full]; simp only [readCov_whole, hE, hF, St.lstm, St.zero]
    · iexists _; isplitr; swap; · iexact Hr
      ipureintro; sl_open_run; rw [View.read_writes_full]; simp only [readCov_whole, hE, hF, St.lstm, St.zero]
  isplitl [Hd0 Hd2 Hd3 Hd4 Hs0 Hs2 Hs3 Hs4 Hc0 Hc1]
  · rw [ring_1]
    isplitl [Hd0]; · rw [land, ← landed_chunk c 0 ff f0]; iexact Hd0
    isplitl [Hd2]; · iexists f2; iexact Hd2
    isplitl [Hd3]; · iexists f3; iexact Hd3
    isplitl [Hd4]; · iexists f4; iexact Hd4
    isplitl [Hs0]; · iexact Hs0
    isplitl [Hs2]; · iexact Hs2
    isplitl [Hs3]; · iexact Hs3
    isplitl [Hs4]; · iexact Hs4
    isplitl [Hc0]; · iexact Hc0
    iexists f1; iexact Hc1
  isplitl [Hw Hb]
  · isplitl [Hw]; · iexists _; isplitr; swap; · iexact Hw
                    ipureintro; exact Ew
    · iexists _; isplitr; swap; · iexact Hb
      ipureintro; exact Eb
  iexists _; iexact HW

/-- Grid point 1. -/
theorem part2_1 (s : St F) (W : Waits sig Unit) (K : _ → sProp 𝕄) :
    iprop(scr c s ∗ ring c ff 1 ∗ wts c a4 a5 w b ∗ owes (c : Thread nD τ) 0 W
        ∗ (iprop(scr c s ∗ ring c ff 2 ∗ wts c a4 a5 w b ∗ (∃ W', owes (c : Thread nD τ) 0 W')) -∗ K (ret2 (grid0.coords t0_1) s.q)))
      ⊢ wp frame (wpE (defs₀ (F := F)) Variants.none c none) Set.univ (part2At a3 ha3 a4 ha4 a5 ha5 a6 ha6 (grid0.coords t0_1)) K := by
  unfold part2At
  have h2 : k0_cond2 (grid0.coords t0_1) = 1#1 := by decide
  have e1 : k0_off1 (grid0.coords t0_1) = ![0] := by decide
  have e2 : k0_off2 (grid0.coords t0_1) = ![40000, 0] := by decide
  have h3 : k0_cond3 (grid0.coords t0_1) = 1#1 := by decide
  have e3 : k0_off3 (grid0.coords t0_1) = ![1] := by decide
  have e4 : k0_off4 (grid0.coords t0_1) = ![20000, 0] := by decide
  rw [k0_part2_eq_skeleton]; unfold k0_part2_skel
  simp only [e3, e4, e1, e2]
  rw [ring_1]; unfold scr wts owns
  iintro ⟨⟨⟨%gh, %Eh, Hh⟩, ⟨%gc, %Ec, Hc⟩, ⟨%gq, %Eq, Hq⟩, ⟨%gr, %Er, Hr⟩⟩, ⟨Hd0, ⟨%f2, Hd2⟩, ⟨%f3, Hd3⟩, ⟨%f4, Hd4⟩, Hs0, Hs2, Hs3, Hs4, Hc0, ⟨%fl, Hfl⟩⟩, ⟨⟨%gw, %Ew, Hw⟩, ⟨%gb, %Eb, Hb⟩⟩, HW, HK⟩
  sl_exec
  rw [wp_ret]; imodintro
  iapply (ret_congr (i := grid0.coords t0_1) (q := s.q) K ?_)
  · sl_open_run; rw [View.readAt_eq_ld, Eq]
  iapply HK
  try unfold scr
  try unfold wts
  try unfold owns
  isplitl [Hh Hc Hq Hr]
  · isplitl [Hh]; · iexists _; isplitr; swap; · iexact Hh
                    ipureintro; exact Eh
    isplitl [Hc]; · iexists _; isplitr; swap; · iexact Hc
                    ipureintro; exact Ec
    isplitl [Hq]; · iexists _; isplitr; swap; · iexact Hq
                    ipureintro; exact Eq
    · iexists _; isplitr; swap; · iexact Hr
      ipureintro; exact Er
  isplitl [Hd0 Hfl_dst Hd3 Hd4 Hs0 Hfl_src Hs3 Hs4 Hfl Hc0]
  · rw [ring_2]
    isplitl [Hd0]; · iexact Hd0
    isplitl [Hfl_dst]; · rw [land, ← landed_chunk c 1 ff fl]; iexact Hfl_dst
    isplitl [Hd3]; · iexists f3; iexact Hd3
    isplitl [Hd4]; · iexists f4; iexact Hd4
    isplitl [Hs0]; · iexact Hs0
    isplitl [Hfl_src]; · iexact Hfl_src
    isplitl [Hs3]; · iexact Hs3
    isplitl [Hs4]; · iexact Hs4
    isplitl [Hfl]; · iexact Hfl
    iexists f2; iexact Hc0
  isplitl [Hw Hb]
  · isplitl [Hw]; · iexists _; isplitr; swap; · iexact Hw
                    ipureintro; exact Ew
    · iexists _; isplitr; swap; · iexact Hb
      ipureintro; exact Eb
  iexists _; iexact HW

/-- Grid point 2. -/
theorem part2_2 (s : St F) (W : Waits sig Unit) (K : _ → sProp 𝕄) :
    iprop(scr c s ∗ ring c ff 2 ∗ wts c a4 a5 w b ∗ owes (c : Thread nD τ) 0 W
        ∗ (iprop(scr c s ∗ ring c ff 3 ∗ wts c a4 a5 w b ∗ (∃ W', owes (c : Thread nD τ) 0 W')) -∗ K (ret2 (grid0.coords t0_2) s.q)))
      ⊢ wp frame (wpE (defs₀ (F := F)) Variants.none c none) Set.univ (part2At a3 ha3 a4 ha4 a5 ha5 a6 ha6 (grid0.coords t0_2)) K := by
  unfold part2At
  have h2 : k0_cond2 (grid0.coords t0_2) = 1#1 := by decide
  have e1 : k0_off1 (grid0.coords t0_2) = ![1] := by decide
  have e2 : k0_off2 (grid0.coords t0_2) = ![60000, 0] := by decide
  have h3 : k0_cond3 (grid0.coords t0_2) = 1#1 := by decide
  have e3 : k0_off3 (grid0.coords t0_2) = ![0] := by decide
  have e4 : k0_off4 (grid0.coords t0_2) = ![40000, 0] := by decide
  rw [k0_part2_eq_skeleton]; unfold k0_part2_skel
  simp only [e3, e4, e1, e2]
  rw [ring_2]; unfold scr wts owns
  iintro ⟨⟨⟨%gh, %Eh, Hh⟩, ⟨%gc, %Ec, Hc⟩, ⟨%gq, %Eq, Hq⟩, ⟨%gr, %Er, Hr⟩⟩, ⟨Hd0, Hd1, ⟨%f3, Hd3⟩, ⟨%f4, Hd4⟩, Hs0, Hs1, Hs3, Hs4, Hc1, ⟨%fl, Hfl⟩⟩, ⟨⟨%gw, %Ew, Hw⟩, ⟨%gb, %Eb, Hb⟩⟩, HW, HK⟩
  sl_exec
  rw [wp_ret]; imodintro
  iapply (ret_congr (i := grid0.coords t0_2) (q := s.q) K ?_)
  · sl_open_run; rw [View.readAt_eq_ld, Eq]
  iapply HK
  try unfold scr
  try unfold wts
  try unfold owns
  isplitl [Hh Hc Hq Hr]
  · isplitl [Hh]; · iexists _; isplitr; swap; · iexact Hh
                    ipureintro; exact Eh
    isplitl [Hc]; · iexists _; isplitr; swap; · iexact Hc
                    ipureintro; exact Ec
    isplitl [Hq]; · iexists _; isplitr; swap; · iexact Hq
                    ipureintro; exact Eq
    · iexists _; isplitr; swap; · iexact Hr
      ipureintro; exact Er
  isplitl [Hd0 Hd1 Hfl_dst Hd4 Hs0 Hs1 Hfl_src Hs4 Hfl Hc1]
  · rw [ring_3]
    isplitl [Hd0]; · iexact Hd0
    isplitl [Hd1]; · iexact Hd1
    isplitl [Hfl_dst]; · rw [land, ← landed_chunk c 2 ff fl]; iexact Hfl_dst
    isplitl [Hd4]; · iexists f4; iexact Hd4
    isplitl [Hs0]; · iexact Hs0
    isplitl [Hs1]; · iexact Hs1
    isplitl [Hfl_src]; · iexact Hfl_src
    isplitl [Hs4]; · iexact Hs4
    isplitl [Hfl]; · iexact Hfl
    iexists f3; iexact Hc1
  isplitl [Hw Hb]
  · isplitl [Hw]; · iexists _; isplitr; swap; · iexact Hw
                    ipureintro; exact Ew
    · iexists _; isplitr; swap; · iexact Hb
      ipureintro; exact Eb
  iexists _; iexact HW

/-- Grid point 3. -/
theorem part2_3 (s : St F) (W : Waits sig Unit) (K : _ → sProp 𝕄) :
    iprop(scr c s ∗ ring c ff 3 ∗ wts c a4 a5 w b ∗ owes (c : Thread nD τ) 0 W
        ∗ (iprop(scr c s ∗ ring c ff 4 ∗ wts c a4 a5 w b ∗ (∃ W', owes (c : Thread nD τ) 0 W')) -∗ K (ret2 (grid0.coords t0_3) s.q)))
      ⊢ wp frame (wpE (defs₀ (F := F)) Variants.none c none) Set.univ (part2At a3 ha3 a4 ha4 a5 ha5 a6 ha6 (grid0.coords t0_3)) K := by
  unfold part2At
  have h2 : k0_cond2 (grid0.coords t0_3) = 1#1 := by decide
  have e1 : k0_off1 (grid0.coords t0_3) = ![0] := by decide
  have e2 : k0_off2 (grid0.coords t0_3) = ![80000, 0] := by decide
  have h3 : k0_cond3 (grid0.coords t0_3) = 1#1 := by decide
  have e3 : k0_off3 (grid0.coords t0_3) = ![1] := by decide
  have e4 : k0_off4 (grid0.coords t0_3) = ![60000, 0] := by decide
  rw [k0_part2_eq_skeleton]; unfold k0_part2_skel
  simp only [e3, e4, e1, e2]
  rw [ring_3]; unfold scr wts owns
  iintro ⟨⟨⟨%gh, %Eh, Hh⟩, ⟨%gc, %Ec, Hc⟩, ⟨%gq, %Eq, Hq⟩, ⟨%gr, %Er, Hr⟩⟩, ⟨Hd0, Hd1, Hd2, ⟨%f4, Hd4⟩, Hs0, Hs1, Hs2, Hs4, Hc0, ⟨%fl, Hfl⟩⟩, ⟨⟨%gw, %Ew, Hw⟩, ⟨%gb, %Eb, Hb⟩⟩, HW, HK⟩
  sl_exec
  rw [wp_ret]; imodintro
  iapply (ret_congr (i := grid0.coords t0_3) (q := s.q) K ?_)
  · sl_open_run; rw [View.readAt_eq_ld, Eq]
  iapply HK
  try unfold scr
  try unfold wts
  try unfold owns
  isplitl [Hh Hc Hq Hr]
  · isplitl [Hh]; · iexists _; isplitr; swap; · iexact Hh
                    ipureintro; exact Eh
    isplitl [Hc]; · iexists _; isplitr; swap; · iexact Hc
                    ipureintro; exact Ec
    isplitl [Hq]; · iexists _; isplitr; swap; · iexact Hq
                    ipureintro; exact Eq
    · iexists _; isplitr; swap; · iexact Hr
      ipureintro; exact Er
  isplitl [Hd0 Hd1 Hd2 Hfl_dst Hs0 Hs1 Hs2 Hfl_src Hfl Hc0]
  · rw [ring_4]
    isplitl [Hd0]; · iexact Hd0
    isplitl [Hd1]; · iexact Hd1
    isplitl [Hd2]; · iexact Hd2
    isplitl [Hfl_dst]; · rw [land, ← landed_chunk c 3 ff fl]; iexact Hfl_dst
    isplitl [Hs0]; · iexact Hs0
    isplitl [Hs1]; · iexact Hs1
    isplitl [Hs2]; · iexact Hs2
    isplitl [Hfl_src]; · iexact Hfl_src
    isplitl [Hfl]; · iexact Hfl
    iexists f4; iexact Hc0
  isplitl [Hw Hb]
  · isplitl [Hw]; · iexists _; isplitr; swap; · iexact Hw
                    ipureintro; exact Ew
    · iexists _; isplitr; swap; · iexact Hb
      ipureintro; exact Eb
  iexists _; iexact HW

/-- Grid point 4. -/
theorem part2_4 (s : St F) (W : Waits sig Unit) (K : _ → sProp 𝕄) :
    iprop(scr c s ∗ ring c ff 4 ∗ wts c a4 a5 w b ∗ owes (c : Thread nD τ) 0 W
        ∗ (iprop(scr c s ∗ ring c ff 5 ∗ wts c a4 a5 w b ∗ (∃ W', owes (c : Thread nD τ) 0 W')) -∗ K (ret2 (grid0.coords t0_4) s.q)))
      ⊢ wp frame (wpE (defs₀ (F := F)) Variants.none c none) Set.univ (part2At a3 ha3 a4 ha4 a5 ha5 a6 ha6 (grid0.coords t0_4)) K := by
  unfold part2At
  have h2 : ¬ (k0_cond2 (grid0.coords t0_4) = 1#1) := by decide
  have h3 : k0_cond3 (grid0.coords t0_4) = 1#1 := by decide
  have e3 : k0_off3 (grid0.coords t0_4) = ![0] := by decide
  have e4 : k0_off4 (grid0.coords t0_4) = ![80000, 0] := by decide
  rw [k0_part2_eq_skeleton]; unfold k0_part2_skel
  simp only [e3, e4]
  rw [ring_4]; unfold scr wts owns
  iintro ⟨⟨⟨%gh, %Eh, Hh⟩, ⟨%gc, %Ec, Hc⟩, ⟨%gq, %Eq, Hq⟩, ⟨%gr, %Er, Hr⟩⟩, ⟨Hd0, Hd1, Hd2, Hd3, Hs0, Hs1, Hs2, Hs3, Hc1, ⟨%fl, Hfl⟩⟩, ⟨⟨%gw, %Ew, Hw⟩, ⟨%gb, %Eb, Hb⟩⟩, HW, HK⟩
  sl_exec
  rw [wp_ret]; imodintro
  iapply (ret_congr (i := grid0.coords t0_4) (q := s.q) K ?_)
  · sl_open_run; rw [View.readAt_eq_ld, Eq]
  iapply HK
  try unfold scr
  try unfold wts
  try unfold owns
  isplitl [Hh Hc Hq Hr]
  · isplitl [Hh]; · iexists _; isplitr; swap; · iexact Hh
                    ipureintro; exact Eh
    isplitl [Hc]; · iexists _; isplitr; swap; · iexact Hc
                    ipureintro; exact Ec
    isplitl [Hq]; · iexists _; isplitr; swap; · iexact Hq
                    ipureintro; exact Eq
    · iexists _; isplitr; swap; · iexact Hr
      ipureintro; exact Er
  isplitl [Hd0 Hd1 Hd2 Hd3 Hfl_dst Hs0 Hs1 Hs2 Hs3 Hfl_src Hfl Hc1]
  · rw [ring_5 c ff 0]
    isplitl [Hd0]; · iexact Hd0
    isplitl [Hd1]; · iexact Hd1
    isplitl [Hd2]; · iexact Hd2
    isplitl [Hd3]; · iexact Hd3
    isplitl [Hfl_dst]; · rw [land, ← landed_chunk c 4 ff fl]; iexact Hfl_dst
    isplitl [Hs0]; · iexact Hs0
    isplitl [Hs1]; · iexact Hs1
    isplitl [Hs2]; · iexact Hs2
    isplitl [Hs3]; · iexact Hs3
    isplitl [Hfl_src]; · iexact Hfl_src
    isplitl [Hfl]; · iexact Hfl
    iexact Hc1
  isplitl [Hw Hb]
  · isplitl [Hw]; · iexists _; isplitr; swap; · iexact Hw
                    ipureintro; exact Ew
    · iexists _; isplitr; swap; · iexact Hb
      ipureintro; exact Eb
  iexists _; iexact HW

/-- The point is the grid's first. -/
abbrev cFirst (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
/-- The point is the first of its iteration. -/
abbrev cStart (i : grid0.Coords) : BitVec 1 :=
  Scalar.cmpi .ne (Scalar.extui (Scalar.cmpi .eq (BitVec.ofNat 32 (i 1).val) 0#32) : BitVec 32) 0#32

/-- A later iteration's point that is not its first: nothing is transferred and the state stays. -/
theorem part2_mid (i : grid0.Coords) (h1 : ¬ (cFirst i = 1#1)) (h2 : ¬ (k0_cond2 i = 1#1)) (h3 : ¬ (k0_cond3 i = 1#1)) (h4 : ¬ (cStart i = 1#1))
    (n : ℕ) (s : St F) (W : Waits sig Unit) (K : _ → sProp 𝕄) :
    iprop(scr c s ∗ ring c ff (n + 5) ∗ wts c a4 a5 w b ∗ owes (c : Thread nD τ) 0 W
        ∗ (iprop(scr c s ∗ ring c ff (n + 5) ∗ wts c a4 a5 w b ∗ (∃ W', owes (c : Thread nD τ) 0 W')) -∗ K (ret2 i s.q)))
      ⊢ wp frame (wpE (defs₀ (F := F)) Variants.none c none) Set.univ (part2At a3 ha3 a4 ha4 a5 ha5 a6 ha6 i) K := by
  unfold part2At
  rw [k0_part2_eq_skeleton]; unfold k0_part2_skel
  unfold scr wts owns
  iintro ⟨⟨⟨%gh, %Eh, Hh⟩, ⟨%gc, %Ec, Hc⟩, ⟨%gq, %Eq, Hq⟩, ⟨%gr, %Er, Hr⟩⟩, HR, ⟨⟨%gw, %Ew, Hw⟩, ⟨%gb, %Eb, Hb⟩⟩, HW, HK⟩
  sl_exec
  rw [wp_ret]; imodintro
  unfold part2_mid.sl.v26
  iapply (ret_congr (i := i) (q := s.q) K ?_)
  · sl_open_run; rw [View.readAt_eq_ld, Eq]
  iapply HK
  try unfold scr
  try unfold wts
  try unfold owns
  isplitl [Hh Hc Hq Hr]
  · isplitl [Hh]; · iexists _; isplitr; swap; · iexact Hh
                    ipureintro; exact Eh
    isplitl [Hc]; · iexists _; isplitr; swap; · iexact Hc
                    ipureintro; exact Ec
    isplitl [Hq]; · iexists _; isplitr; swap; · iexact Hq
                    ipureintro; exact Eq
    · iexists _; isplitr; swap; · iexact Hr
      ipureintro; exact Er
  isplitl [HR]; · iexact HR
  isplitl [Hw Hb]
  · isplitl [Hw]; · iexists _; isplitr; swap; · iexact Hw
                    ipureintro; exact Ew
    · iexists _; isplitr; swap; · iexact Hb
      ipureintro; exact Eb
  iexists _; iexact HW

/-- A later iteration's first point: the LSTM step. -/
theorem part2_start (i : grid0.Coords) (h1 : ¬ (cFirst i = 1#1)) (h2 : ¬ (k0_cond2 i = 1#1)) (h3 : ¬ (k0_cond3 i = 1#1)) (h4 : cStart i = 1#1)
    (n : ℕ) (s : St F) (W : Waits sig Unit) (K : _ → sProp 𝕄) :
    iprop(scr c s ∗ ring c ff (n + 5) ∗ wts c a4 a5 w b ∗ owes (c : Thread nD τ) 0 W
        ∗ (iprop(scr c (St.lstm w b s) ∗ ring c ff (n + 5) ∗ wts c a4 a5 w b ∗ (∃ W', owes (c : Thread nD τ) 0 W')) -∗ K (ret2 i (St.lstm w b s).q)))
      ⊢ wp frame (wpE (defs₀ (F := F)) Variants.none c none) Set.univ (part2At a3 ha3 a4 ha4 a5 ha5 a6 ha6 i) K := by
  unfold part2At
  rw [k0_part2_eq_skeleton]; unfold k0_part2_skel
  simp only [k0_part1_eq_skeleton]; unfold k0_part1_skel
  unfold scr wts owns
  iintro ⟨⟨⟨%gh, %Eh, Hh⟩, ⟨%gc, %Ec, Hc⟩, ⟨%gq, %Eq, Hq⟩, ⟨%gr, %Er, Hr⟩⟩, HR, ⟨⟨%gw, %Ew, Hw⟩, ⟨%gb, %Eb, Hb⟩⟩, HW, HK⟩
  sl_exec
  have hE : View.readAt (Elt F) a4.view (Rect.unit ![0, 0] S384x512.size inb_S384x512_S384x512_0_0).toLoadRect gw = w :=
    (View.readAt_full a4.view gw _).trans Ew
  have hF : View.readAt (Elt F) a5.view (Rect.unit ![0, 0] S1x512.size inb_S1x512_S1x512_0_0).toLoadRect gb = b :=
    (View.readAt_full a5.view gb _).trans Eb
  have hH : View.readAt (Elt F) hM.view (Rect.unit ![0, 0] S200x128.size inb_S200x128_S200x128_0_0).toLoadRect gh = s.h :=
    (View.readAt_full hM.view gh _).trans Eh
  have hC : View.readAt (Elt F) cM.view (Rect.unit ![0, 0] S200x128.size inb_S200x128_S200x128_0_0).toLoadRect gc = s.c :=
    (View.readAt_full cM.view gc _).trans Ec
  have hQ : View.readAt (Elt F) qM.view (Rect.unit ![0, 0] S200x128.size inb_S200x128_S200x128_0_0).toLoadRect gq = s.q :=
    (View.readAt_full qM.view gq _).trans Eq
  have hR : View.readAt (Elt F) rM.view (Rect.unit ![0, 0] S200x128.size inb_S200x128_S200x128_0_0).toLoadRect gr = s.r :=
    (View.readAt_full rM.view gr _).trans Er
  rw [wp_ret]; imodintro
  iapply (ret_congr (i := i) (q := (St.lstm w b s).q) K ?_)
  · sl_open_run; rw [readAt_store, hE, hF, hH, hC, hQ, hR]; rfl
  iapply HK
  try unfold scr
  try unfold wts
  try unfold owns
  isplitl [Hh Hc Hq Hr]
  · isplitl [Hh]; · iexists _; isplitr; swap; · iexact Hh
                    ipureintro; sl_open_run; rw [View.read_writes_full, hE, hF, hH, hC, hQ, hR]; rfl
    isplitl [Hc]; · iexists _; isplitr; swap; · iexact Hc
                    ipureintro; sl_open_run; rw [View.read_writes_full, hE, hF, hH, hC, hQ, hR]; rfl
    isplitl [Hq]; · iexists _; isplitr; swap; · iexact Hq
                    ipureintro; sl_open_run; rw [View.read_writes_full, hE, hF, hH, hC, hQ, hR]; rfl
    · iexists _; isplitr; swap; · iexact Hr
      ipureintro; exact Er
  isplitl [HR]; · iexact HR
  isplitl [Hw Hb]
  · isplitl [Hw]; · iexists _; isplitr; swap; · iexact Hw
                    ipureintro; exact Ew
    · iexists _; isplitr; swap; · iexact Hb
      ipureintro; exact Eb
  iexists _; iexact HW

end Part

end Cert.KernelIdeal.Hand

end
-- ==== Proof.KernelIdeal.Body.lean ====
/-
  The body at every grid point: its first part (`Dma`), then the segment attention of the point's block of graphs — five
  loads of the landed chunk, the readout rows stored to the recurrent scratch, and the output block. `Step` is the state
  after a point from the state before it, and `outRows` the block the point leaves in the output window's slot.
-/
module

public import proofs.«01_k».proof.Proof.KernelIdeal.Dma

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values -/

/-- Rows `20000 j + 4000 n` to `20000 j + 4000 n + 3999` of the streamed array: the atoms of eight graphs. -/
abbrev fsub (X : Vec F S100000x128 .f32) (i : grid0.Coords) (n : Fin 5) : Vec F S4000x128 .f32 :=
  View.ld X (Rect.unit (s := S100000x128) (k0_off6 i (BitVec.ofNat 32 (4000 * n.val))) S4000x128.size (k0_off6_inb i n))

/-- Which of the 4000 atoms belong to which of the eight graphs. -/
def mask : IVec S8x4000 1 := k0_pay21 (iota .tc S8x4000 32 [1] iota_S8x4000_d1_w32) 500#32 k0_pay18 k0_pay19 k0_pay20

/-- The readout rows of a block of forty graphs, from its query rows and its five chunks of atoms. -/
def readRows (q : Vec F S40x128 .f32) (f0 f1 f2 f3 f4 : Vec F S4000x128 .f32) : FVec F S40x128 .f32 :=
  k0_pay2 (k0_pay33 mask (k0_pay24 q f4))
    (k0_pay34 f0 (k0_pay25 mask f0 (k0_pay22 q) (constant S8x4000 .f32 0x00000000#32)) (k0_pay26 mask f0 (k0_pay22 q) (constant S8x4000 .f32 0x00000000#32)))
    (k0_pay35 f1 (k0_pay27 q mask f1) (k0_pay28 q mask f1))
    (k0_pay36 f2 (k0_pay29 q mask f2) (k0_pay30 q mask f2))
    (k0_pay37 mask f3 (k0_pay23 q f3) k0_pay31)
    (k0_pay38 mask f4 (k0_pay24 q f4)) k0_pay39

/-- The block of the result: the query rows, the readout rows and the rows of global features side by side. -/
def outRows (q : Vec F S40x128 .f32) (f0 f1 f2 f3 f4 : Vec F S4000x128 .f32) (g : Vec F S40x128 .f32) : FVec F S40x384 .f32 :=
  k0_pay3 q (k0_pay33 mask (k0_pay24 q f4))
    (k0_pay34 f0 (k0_pay25 mask f0 (k0_pay22 q) (constant S8x4000 .f32 0x00000000#32)) (k0_pay26 mask f0 (k0_pay22 q) (constant S8x4000 .f32 0x00000000#32)))
    (k0_pay35 f1 (k0_pay27 q mask f1) (k0_pay28 q mask f1))
    (k0_pay36 f2 (k0_pay29 q mask f2) (k0_pay30 q mask f2))
    (k0_pay37 mask f3 (k0_pay23 q f3) k0_pay31)
    (k0_pay38 mask f4 (k0_pay24 q f4)) k0_pay39 g

/-- The attention of a grid point: the block's readout rows stored. -/
abbrev St.attend (X : Vec F S100000x128 .f32) (i : grid0.Coords) (s : St F) : St F where
  h := s.h
  c := s.c
  q := s.q
  r := VecWindow.put (s := S200x128) s.r (k0_off5 i) S40x128.size
    (readRows (qrows i s.q) (fsub X i 0) (fsub X i 1) (fsub X i 2) (fsub X i 3) (fsub X i 4))

/-- The block a grid point leaves in the output window, from the state its attention finds. -/
def outAt (X : Vec F S100000x128 .f32) (i : grid0.Coords) (s : St F) (g : Vec F S40x128 .f32) : Vec F S40x384 .f32 :=
  outRows (qrows i s.q) (fsub X i 0) (fsub X i 1) (fsub X i 2) (fsub X i 3) (fsub X i 4) g

/-! ## The body -/

section Body
variable (c : Dev nD) (a3 : Memref sig .tc .vmem S40x128 .f32) (ha3 : a3.IsWhole) (a4 : Memref sig .tc .vmem S384x512 .f32) (ha4 : a4.IsWhole)
    (a5 : Memref sig .tc .vmem S1x512 .f32) (ha5 : a5.IsWhole) (a6 : Memref sig .tc .vmem S40x384 .f32) (ha6 : a6.IsWhole)
    (ff : BufAt (F := F) c ftM) (w : Vec F S384x512 .f32) (b : Vec F S1x512 .f32)

/-- The body at grid coordinates `i`. -/
abbrev bodyOn (i : grid0.Coords) := cc0__body (F := F) i ftM (Memref.isWhole_whole _) a3 ha3 a4 ha4 a5 ha5 a6 ha6 hM (Memref.isWhole_whole _) cM (Memref.isWhole_whole _)
          qM (Memref.isWhole_whole _) rM (Memref.isWhole_whole _) fvM (Memref.isWhole_whole _) cc0_scratch5

/-- The attention half of the body, after its first part, over the landed chunk `k`. -/
theorem body_attend (i : grid0.Coords) (k : Fin 5)
    (hS : ∀ n : Fin 5, (fvM.access (Rect.unit (s := S100000x128) (k0_off6 i (BitVec.ofNat 32 (4000 * n.val))) S4000x128.size (k0_off6_inb i n))).set ⊆ (dstM k).view.set)
    (P Rg Rg' : sProp 𝕄) (s : St F) (g : Vec F S40x128 .f32)
    (hring : Rg ⊢ iprop(land c ff k ∗ (land c ff k -∗ Rg')))
    (hpart : ∀ K, iprop(P ∗ (iprop(scr c s ∗ Rg ∗ wts c a4 a5 w b ∗ (∃ W', owes (c : Thread nD τ) 0 W')) -∗ K (ret2 i s.q)))
      ⊢ wp frame (wpE (defs₀ (F := F)) Variants.none c none) Set.univ (part2At a3 ha3 a4 ha4 a5 ha5 a6 ha6 i) K)
    (K' : _ → sProp 𝕄) :
    iprop(P ∗ owns (c : Thread nD τ) a3 fullShare g ∗ (∃ d, owns (c : Thread nD τ) a6 fullShare d)
        ∗ (iprop(scr c (s.attend (landedF c ff) i) ∗ Rg' ∗ wts c a4 a5 w b ∗ (∃ W', owes (c : Thread nD τ) 0 W')
            ∗ owns (c : Thread nD τ) a3 fullShare g ∗ owns (c : Thread nD τ) a6 fullShare (outAt (landedF c ff) i s g)) -∗ K' ⟨⟩))
      ⊢ wp frame (wpE (defs₀ (F := F)) Variants.none c none) Set.univ (bodyOn a3 ha3 a4 ha4 a5 ha5 a6 ha6 i) K' := by
  unfold bodyOn
  rw [cc0__body_eq_skeleton]; unfold cc0__body_skel
  iintro ⟨HP, Ha3, Ha6, HK⟩
  rw [wp_bind]
  iapply hpart
  isplitl [HP]; · iexact HP
  iintro ⟨⟨Hh, Hc, Hq, Hr⟩, HRg, Hwts, HW⟩
  ihave HX := hring $$ HRg
  icases HX with ⟨Hd, Hback⟩
  have h0 : (fvM.access (Rect.unit (s := S100000x128) (k0_off6 i 0#32) S4000x128.size (k0_off6_inb i 0))).set ⊆ (dstM k).view.set := hS 0
  have h1 : (fvM.access (Rect.unit (s := S100000x128) (k0_off6 i 4000#32) S4000x128.size (k0_off6_inb i 1))).set ⊆ (dstM k).view.set := hS 1
  have h2 : (fvM.access (Rect.unit (s := S100000x128) (k0_off6 i 8000#32) S4000x128.size (k0_off6_inb i 2))).set ⊆ (dstM k).view.set := hS 2
  have h3 : (fvM.access (Rect.unit (s := S100000x128) (k0_off6 i 12000#32) S4000x128.size (k0_off6_inb i 3))).set ⊆ (dstM k).view.set := hS 3
  have h4 : (fvM.access (Rect.unit (s := S100000x128) (k0_off6 i 16000#32) S4000x128.size (k0_off6_inb i 4))).set ⊆ (dstM k).view.set := hS 4
  simp only [k0_part3_eq_skeleton, k0_part4_eq_skeleton, k0_part5_eq_skeleton]; unfold k0_part3_skel k0_part4_skel k0_part5_skel
  unfold owns
  icases Hr with ⟨%gr, %Er, Hr⟩
  icases Ha3 with ⟨%g3, %E3, Ha3⟩
  icases Ha6 with ⟨%d6, %g6, -, Ha6⟩
  sl_exec
  rw [wp_ret]; imodintro
  iapply HK
  unfold scr owns
  isplitl [Hh Hc Hq Hr]
  · isplitl [Hh]; · iexact Hh
    isplitl [Hc]; · iexact Hc
    isplitl [Hq]; · iexact Hq
    iexists _; isplitr; swap; · iexact Hr
    ipureintro
    sl_open_run
    try dsimp only
    rw [View.read_writes_cons_put _ _ _ _ _ rfl, View.writes_nil, Er]
    unfold readRows mask
    rfl
  isplitl [Hd Hback]; · iapply Hback; iexact Hd
  isplitl [Hwts]; · iexact Hwts
  isplitl [HW]; · iexact HW
  isplitl [Ha3]
  · iexists _; isplitr; swap; · iexact Ha3
    ipureintro; exact E3
  iexists _; isplitr; swap; · iexact Ha6
  ipureintro
  sl_open_run
  try dsimp only
  rw [View.read_writes_full]
  have e3 : View.readAt (Elt F) a3.view (Rect.unit ![0, 0] S40x128.size inb_S40x128_S40x128_0_0).toLoadRect g3 = g :=
    (View.readAt_full a3.view g3 _).trans E3
  rw [e3]
  unfold outAt outRows mask
  rfl

end Body

end Cert.KernelIdeal.Hand

end
-- ==== Proof.KernelIdeal.Run.lean ====
/-
  The kernel's run: the invariant between grid points (`PhiAt`: the recurrent scratch at the state `stAt`, the transfers
  as `ring` states them), the body obligation at each of the fifteen points, and the run of the whole program, whose
  post-condition names what every window's array holds at the end.
-/
module

public import proofs.«01_k».proof.Proof.KernelIdeal.Body
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the kernel -/

/-- What core `c`'s buffers hold when the kernel starts: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 0).trans (((dats 0 c).arrAt_in 0 rfl _).trans ((hA c 0).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) h

/-! ## The state between grid points -/

/-- The streamed array and the two weight arrays as the kernel finds them. -/
abbrev ffOf (c : Dev nD) : BufAt (F := F) c ftM := V m c main_arg0
abbrev wOf (c : Dev nD) : Vec F S384x512 .f32 := V m c main_v2
abbrev bOf (c : Dev nD) : Vec F S1x512 .f32 := V m c main_v4

/-- The coordinates of the `n`-th grid point. -/
def ptc (n : ℕ) : grid0.Coords := grid0.coords ⟨n % 15, by rw [N_0]; exact Nat.mod_lt _ (by decide)⟩

theorem ptc_val (t : Fin grid0.N) : ptc t.val = grid0.coords t := by
  have ht : t.val < 15 := lt_of_lt_of_eq t.isLt N_0
  unfold ptc; exact congrArg _ (Fin.ext (Nat.mod_eq_of_lt ht))

/-- The state point `n`'s attention finds, from the state the point finds: the LSTM step at the first block of every
    iteration. -/
def midOf (w : Vec F S384x512 .f32) (b : Vec F S1x512 .f32) (n : ℕ) (s : St F) : St F := if n % 5 = 0 then s.lstm w b else s

/-- The state point `n` finds. -/
def stOf (X : Vec F S100000x128 .f32) (w : Vec F S384x512 .f32) (b : Vec F S1x512 .f32) : ℕ → St F
  | 0 => St.zero
  | n + 1 => (midOf w b n (stOf X w b n)).attend X (ptc n)

abbrev stAt (c : Dev nD) (n : ℕ) : St F := stOf (landedF c (ffOf m c)) (wOf m c) (bOf m c) n
abbrev midAt (c : Dev nD) (n : ℕ) : St F := midOf (wOf m c) (bOf m c) n (stAt m c n)

/-- The recurrent scratch before point `n`: anything at all before the first, which overwrites it. -/
def scrAt (c : Dev nD) : ℕ → sProp 𝕄
  | 0 => scrAny c
  | n + 1 => scr c (stAt m c (n + 1))

theorem scrAt_zero (c : Dev nD) : scrAt m c 0 = scrAny c := rfl
theorem scrAt_succ (c : Dev nD) (n : ℕ) : scrAt m c (n + 1) = scr c (stAt m c (n + 1)) := rfl
theorem midAt_start (c : Dev nD) (n : ℕ) (h : n % 5 = 0) : midAt m c n = (stAt m c n).lstm (wOf m c) (bOf m c) := if_pos h
theorem midAt_keep (c : Dev nD) (n : ℕ) (h : ¬n % 5 = 0) : midAt m c n = stAt m c n := if_neg h

/-- The invariant between grid points. -/
def PhiAt (c : Dev nD) (n : ℕ) : sProp 𝕄 :=
  iprop(scrAt m c n ∗ ring c (ffOf m c) n ∗ (∃ r, prngReg c r))

/-- The chunk a point reads. -/
abbrev chunkOf (n : ℕ) : Fin 5 := ⟨n % 5, Nat.mod_lt _ (by decide)⟩

theorem coords_one : ∀ t : Fin grid0.N, ((grid0.coords t) 1).val = t.val % 5 := by decide

theorem loads_sub (t : Fin grid0.N) (n : Fin 5) :
    (fvM.access (Rect.unit (s := S100000x128) (k0_off6 (grid0.coords t) (BitVec.ofNat 32 (4000 * n.val))) S4000x128.size (k0_off6_inb (grid0.coords t) n))).set
      ⊆ (dstM (chunkOf t.val)).view.set := by
  have h1 : (fvM.access (Rect.unit (s := S100000x128) (k0_off6 (grid0.coords t) (BitVec.ofNat 32 (4000 * n.val))) S4000x128.size (k0_off6_inb (grid0.coords t) n))).set = _ :=
    View.set_slice_whole cc0_scratch4 _
  have h2 : (dstM (chunkOf t.val)).view.set = _ := View.set_slice_whole cc0_scratch4 _
  rw [h1, h2]
  intro i hi
  have hi' := Rect.mem_set_unit.mp hi
  rw [k0_off6_eq] at hi'
  refine Rect.mem_set_unit.mpr fun a => ?_
  have hn := n.isLt
  have hc := coords_one t
  have h0 := hi' 0
  have h1 := hi' 1
  match a with
  | ⟨0, _⟩ =>
    have h0' : 20000 * ((grid0.coords t) 1).val + 4000 * n.val ≤ (i 0).val ∧ (i 0).val < 20000 * ((grid0.coords t) 1).val + 4000 * n.val + 4000 := h0
    show 20000 * (t.val % 5) ≤ (i 0).val ∧ (i 0).val < 20000 * (t.val % 5) + 20000
    omega
  | ⟨1, _⟩ => exact h1

theorem ring_land (c : Dev nD) (ff : BufAt (F := F) c ftM) (t : Fin grid0.N) :
    ring c ff (t.val + 1) ⊢ iprop(land c ff (chunkOf t.val) ∗ (land c ff (chunkOf t.val) -∗ ring c ff (t.val + 1))) := by
  have key : ∀ (n : ℕ) (k : Fin 5) (R : sProp 𝕄), ring c ff n = iprop(land c ff k ∗ R) →
      ring c ff n ⊢ iprop(land c ff k ∗ (land c ff k -∗ ring c ff n)) := by
    intro n k R h
    rw [h]
    iintro ⟨H1, H2⟩
    isplitl [H1]; · iexact H1
    iintro H1
    isplitl [H1]; · iexact H1
    iexact H2
  have fiveAny : ∀ (n : ℕ) (k : Fin 5), ring c ff (n + 5) ⊢ iprop(land c ff k ∗ (land c ff k -∗ ring c ff (n + 5))) := by
    intro n k
    rw [ring_5]
    fin_cases k
    · iintro ⟨R0, R1, R2, R3, R4, R5, R6, R7, R8, R9, R10, R11⟩
      isplitl [R0]; · iexact R0
      iintro R0
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iintro ⟨R0, R1, R2, R3, R4, R5, R6, R7, R8, R9, R10, R11⟩
      isplitl [R1]; · iexact R1
      iintro R1
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iintro ⟨R0, R1, R2, R3, R4, R5, R6, R7, R8, R9, R10, R11⟩
      isplitl [R2]; · iexact R2
      iintro R2
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iintro ⟨R0, R1, R2, R3, R4, R5, R6, R7, R8, R9, R10, R11⟩
      isplitl [R3]; · iexact R3
      iintro R3
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iintro ⟨R0, R1, R2, R3, R4, R5, R6, R7, R8, R9, R10, R11⟩
      isplitl [R4]; · iexact R4
      iintro R4
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
  rcases fin_N0 t with h | h | h | h | h | h | h | h | h | h | h | h | h | h | h <;> subst h
  · show ring c ff 1 ⊢ iprop(land c ff 0 ∗ (land c ff 0 -∗ ring c ff 1))
    rw [ring_1]
    iintro ⟨R0, R1, R2, R3, R4, R5, R6, R7, R8, R9⟩
    isplitl [R0]; · iexact R0
    iintro R0
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · show ring c ff 2 ⊢ iprop(land c ff 1 ∗ (land c ff 1 -∗ ring c ff 2))
    rw [ring_2]
    iintro ⟨R0, R1, R2, R3, R4, R5, R6, R7, R8, R9⟩
    isplitl [R1]; · iexact R1
    iintro R1
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · show ring c ff 3 ⊢ iprop(land c ff 2 ∗ (land c ff 2 -∗ ring c ff 3))
    rw [ring_3]
    iintro ⟨R0, R1, R2, R3, R4, R5, R6, R7, R8, R9⟩
    isplitl [R2]; · iexact R2
    iintro R2
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · show ring c ff 4 ⊢ iprop(land c ff 3 ∗ (land c ff 3 -∗ ring c ff 4))
    rw [ring_4]
    iintro ⟨R0, R1, R2, R3, R4, R5, R6, R7, R8, R9⟩
    isplitl [R3]; · iexact R3
    iintro R3
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · exact fiveAny 0 4
  · exact fiveAny 1 0
  · exact fiveAny 2 1
  · exact fiveAny 3 2
  · exact fiveAny 4 3
  · exact fiveAny 5 4
  · exact fiveAny 6 0
  · exact fiveAny 7 1
  · exact fiveAny 8 2
  · exact fiveAny 9 3
  · exact fiveAny 10 4

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (landedF c (ffOf m c)) (grid0.coords t) (midAt m c t.val) (iblk m c 0 t)
  Φ t := PhiAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outAt (landedF c (ffOf m c)) (grid0.coords t) (midAt m c t.val) (iblk m c 0 t) := by dsimp only [dats]

theorem index_1 : ∀ (t : Fin grid0.N) (a : Fin 2), win0_1.index t a = 0 := by decide
theorem index_2 : ∀ (t : Fin grid0.N) (a : Fin 2), win0_2.index t a = 0 := by decide

/-- The two weight windows' block is the whole array at every point. -/
theorem iblk_1 (c : Dev nD) (t : Fin cfg0.N) : (iblk m c 1 t : Vec F S384x512 .f32) = wOf m c := by
  funext y
  show V m c main_v2 _ = V m c main_v2 y
  refine congrArg _ (funext fun a => Fin.ext ?_)
  exact Pipeline.Window.rect_emb_val_of_index_zero win0_1 t a (index_1 t a) y
theorem iblk_2 (c : Dev nD) (t : Fin cfg0.N) : (iblk m c 2 t : Vec F S1x512 .f32) = bOf m c := by
  funext y
  show V m c main_v4 _ = V m c main_v4 y
  refine congrArg _ (funext fun a => Fin.ext ?_)
  exact Pipeline.Window.rect_emb_val_of_index_zero win0_2 t a (index_2 t a) y

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The first part of the body at every point: from the state the point finds to the state its attention finds. -/
theorem part2_at (c : Dev nD) (a3 : Memref sig .tc .vmem S40x128 .f32) (ha3 : a3.IsWhole) (a4 : Memref sig .tc .vmem S384x512 .f32) (ha4 : a4.IsWhole)
    (a5 : Memref sig .tc .vmem S1x512 .f32) (ha5 : a5.IsWhole) (a6 : Memref sig .tc .vmem S40x384 .f32) (ha6 : a6.IsWhole)
    (W : Waits sig Unit) (t : Fin grid0.N) (K : _ → sProp 𝕄) :
    iprop((scrAt m c t.val ∗ ring c (ffOf m c) t.val ∗ wts c a4 a5 (wOf m c) (bOf m c) ∗ owes (c : Thread nD τ) 0 W)
        ∗ (iprop(scr c (midAt m c t.val) ∗ ring c (ffOf m c) (t.val + 1) ∗ wts c a4 a5 (wOf m c) (bOf m c) ∗ (∃ W', owes (c : Thread nD τ) 0 W'))
            -∗ K (ret2 (grid0.coords t) (midAt m c t.val).q)))
      ⊢ wp frame (wpE (defs₀ (F := F)) Variants.none c none) Set.univ (part2At a3 ha3 a4 ha4 a5 ha5 a6 ha6 (grid0.coords t)) K := by
  rcases fin_N0 t with h | h | h | h | h | h | h | h | h | h | h | h | h | h | h <;> subst h
  · rw [show (t0_0 : Fin grid0.N).val = 0 from rfl, scrAt_zero, midAt_start m c 0 (by decide)]
    iintro ⟨⟨HS, HR, HB, HW⟩, HK⟩
    iapply (part2_0 c a3 ha3 a4 ha4 a5 ha5 a6 ha6 (ffOf m c) (wOf m c) (bOf m c) W K)
    isplitl [HS]; · iexact HS
    isplitl [HR]; · iexact HR
    isplitl [HB]; · iexact HB
    isplitl [HW]; · iexact HW
    iexact HK
  · rw [show (t0_1 : Fin grid0.N).val = 1 from rfl, scrAt_succ m c 0, midAt_keep m c 1 (by decide)]
    iintro ⟨⟨HS, HR, HB, HW⟩, HK⟩
    iapply (part2_1 c a3 ha3 a4 ha4 a5 ha5 a6 ha6 (ffOf m c) (wOf m c) (bOf m c) (stAt m c 1) W K)
    isplitl [HS]; · iexact HS
    isplitl [HR]; · iexact HR
    isplitl [HB]; · iexact HB
    isplitl [HW]; · iexact HW
    iexact HK
  · rw [show (t0_2 : Fin grid0.N).val = 2 from rfl, scrAt_succ m c 1, midAt_keep m c 2 (by decide)]
    iintro ⟨⟨HS, HR, HB, HW⟩, HK⟩
    iapply (part2_2 c a3 ha3 a4 ha4 a5 ha5 a6 ha6 (ffOf m c) (wOf m c) (bOf m c) (stAt m c 2) W K)
    isplitl [HS]; · iexact HS
    isplitl [HR]; · iexact HR
    isplitl [HB]; · iexact HB
    isplitl [HW]; · iexact HW
    iexact HK
  · rw [show (t0_3 : Fin grid0.N).val = 3 from rfl, scrAt_succ m c 2, midAt_keep m c 3 (by decide)]
    iintro ⟨⟨HS, HR, HB, HW⟩, HK⟩
    iapply (part2_3 c a3 ha3 a4 ha4 a5 ha5 a6 ha6 (ffOf m c) (wOf m c) (bOf m c) (stAt m c 3) W K)
    isplitl [HS]; · iexact HS
    isplitl [HR]; · iexact HR
    isplitl [HB]; · iexact HB
    isplitl [HW]; · iexact HW
    iexact HK
  · rw [show (t0_4 : Fin grid0.N).val = 4 from rfl, scrAt_succ m c 3, midAt_keep m c 4 (by decide)]
    iintro ⟨⟨HS, HR, HB, HW⟩, HK⟩
    iapply (part2_4 c a3 ha3 a4 ha4 a5 ha5 a6 ha6 (ffOf m c) (wOf m c) (bOf m c) (stAt m c 4) W K)
    isplitl [HS]; · iexact HS
    isplitl [HR]; · iexact HR
    isplitl [HB]; · iexact HB
    isplitl [HW]; · iexact HW
    iexact HK
  · rw [show (t0_5 : Fin grid0.N).val = 5 from rfl, scrAt_succ m c 4, midAt_start m c 5 (by decide)]
    iintro ⟨⟨HS, HR, HB, HW⟩, HK⟩
    iapply (part2_start c a3 ha3 a4 ha4 a5 ha5 a6 ha6 (ffOf m c) (wOf m c) (bOf m c) (grid0.coords t0_5) (by decide) (by decide) (by decide) (by decide) 0 (stAt m c 5) W K)
    isplitl [HS]; · iexact HS
    isplitl [HR]; · iexact HR
    isplitl [HB]; · iexact HB
    isplitl [HW]; · iexact HW
    iexact HK
  · rw [show (t0_6 : Fin grid0.N).val = 6 from rfl, scrAt_succ m c 5, midAt_keep m c 6 (by decide)]
    iintro ⟨⟨HS, HR, HB, HW⟩, HK⟩
    iapply (part2_mid c a3 ha3 a4 ha4 a5 ha5 a6 ha6 (ffOf m c) (wOf m c) (bOf m c) (grid0.coords t0_6) (by decide) (by decide) (by decide) (by decide) 1 (stAt m c 6) W K)
    isplitl [HS]; · iexact HS
    isplitl [HR]; · iexact HR
    isplitl [HB]; · iexact HB
    isplitl [HW]; · iexact HW
    iexact HK
  · rw [show (t0_7 : Fin grid0.N).val = 7 from rfl, scrAt_succ m c 6, midAt_keep m c 7 (by decide)]
    iintro ⟨⟨HS, HR, HB, HW⟩, HK⟩
    iapply (part2_mid c a3 ha3 a4 ha4 a5 ha5 a6 ha6 (ffOf m c) (wOf m c) (bOf m c) (grid0.coords t0_7) (by decide) (by decide) (by decide) (by decide) 2 (stAt m c 7) W K)
    isplitl [HS]; · iexact HS
    isplitl [HR]; · iexact HR
    isplitl [HB]; · iexact HB
    isplitl [HW]; · iexact HW
    iexact HK
  · rw [show (t0_8 : Fin grid0.N).val = 8 from rfl, scrAt_succ m c 7, midAt_keep m c 8 (by decide)]
    iintro ⟨⟨HS, HR, HB, HW⟩, HK⟩
    iapply (part2_mid c a3 ha3 a4 ha4 a5 ha5 a6 ha6 (ffOf m c) (wOf m c) (bOf m c) (grid0.coords t0_8) (by decide) (by decide) (by decide) (by decide) 3 (stAt m c 8) W K)
    isplitl [HS]; · iexact HS
    isplitl [HR]; · iexact HR
    isplitl [HB]; · iexact HB
    isplitl [HW]; · iexact HW
    iexact HK
  · rw [show (t0_9 : Fin grid0.N).val = 9 from rfl, scrAt_succ m c 8, midAt_keep m c 9 (by decide)]
    iintro ⟨⟨HS, HR, HB, HW⟩, HK⟩
    iapply (part2_mid c a3 ha3 a4 ha4 a5 ha5 a6 ha6 (ffOf m c) (wOf m c) (bOf m c) (grid0.coords t0_9) (by decide) (by decide) (by decide) (by decide) 4 (stAt m c 9) W K)
    isplitl [HS]; · iexact HS
    isplitl [HR]; · iexact HR
    isplitl [HB]; · iexact HB
    isplitl [HW]; · iexact HW
    iexact HK
  · rw [show (t0_10 : Fin grid0.N).val = 10 from rfl, scrAt_succ m c 9, midAt_start m c 10 (by decide)]
    iintro ⟨⟨HS, HR, HB, HW⟩, HK⟩
    iapply (part2_start c a3 ha3 a4 ha4 a5 ha5 a6 ha6 (ffOf m c) (wOf m c) (bOf m c) (grid0.coords t0_10) (by decide) (by decide) (by decide) (by decide) 5 (stAt m c 10) W K)
    isplitl [HS]; · iexact HS
    isplitl [HR]; · iexact HR
    isplitl [HB]; · iexact HB
    isplitl [HW]; · iexact HW
    iexact HK
  · rw [show (t0_11 : Fin grid0.N).val = 11 from rfl, scrAt_succ m c 10, midAt_keep m c 11 (by decide)]
    iintro ⟨⟨HS, HR, HB, HW⟩, HK⟩
    iapply (part2_mid c a3 ha3 a4 ha4 a5 ha5 a6 ha6 (ffOf m c) (wOf m c) (bOf m c) (grid0.coords t0_11) (by decide) (by decide) (by decide) (by decide) 6 (stAt m c 11) W K)
    isplitl [HS]; · iexact HS
    isplitl [HR]; · iexact HR
    isplitl [HB]; · iexact HB
    isplitl [HW]; · iexact HW
    iexact HK
  · rw [show (t0_12 : Fin grid0.N).val = 12 from rfl, scrAt_succ m c 11, midAt_keep m c 12 (by decide)]
    iintro ⟨⟨HS, HR, HB, HW⟩, HK⟩
    iapply (part2_mid c a3 ha3 a4 ha4 a5 ha5 a6 ha6 (ffOf m c) (wOf m c) (bOf m c) (grid0.coords t0_12) (by decide) (by decide) (by decide) (by decide) 7 (stAt m c 12) W K)
    isplitl [HS]; · iexact HS
    isplitl [HR]; · iexact HR
    isplitl [HB]; · iexact HB
    isplitl [HW]; · iexact HW
    iexact HK
  · rw [show (t0_13 : Fin grid0.N).val = 13 from rfl, scrAt_succ m c 12, midAt_keep m c 13 (by decide)]
    iintro ⟨⟨HS, HR, HB, HW⟩, HK⟩
    iapply (part2_mid c a3 ha3 a4 ha4 a5 ha5 a6 ha6 (ffOf m c) (wOf m c) (bOf m c) (grid0.coords t0_13) (by decide) (by decide) (by decide) (by decide) 8 (stAt m c 13) W K)
    isplitl [HS]; · iexact HS
    isplitl [HR]; · iexact HR
    isplitl [HB]; · iexact HB
    isplitl [HW]; · iexact HW
    iexact HK
  · rw [show (t0_14 : Fin grid0.N).val = 14 from rfl, scrAt_succ m c 13, midAt_keep m c 14 (by decide)]
    iintro ⟨⟨HS, HR, HB, HW⟩, HK⟩
    iapply (part2_mid c a3 ha3 a4 ha4 a5 ha5 a6 ha6 (ffOf m c) (wOf m c) (bOf m c) (grid0.coords t0_14) (by decide) (by decide) (by decide) (by decide) 9 (stAt m c 14) W K)
    isplitl [HS]; · iexact HS
    isplitl [HR]; · iexact HR
    isplitl [HB]; · iexact HB
    isplitl [HW]; · iexact HW
    iexact HK

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c)]
  rw [after0_0, after0_1, after0_2, after0_3, iblk_1, iblk_2]
  rw [show (dats m 0 c).Φ t.castSucc = PhiAt m c t.val from rfl, show (dats m 0 c).Φ t.succ = PhiAt m c (t.val + 1) from rfl]
  unfold Dat.owesAt Pipeline.owesWithin PhiAt
  rw [show (dats m 0 c).owed t.castSucc = 0 from rfl, show (dats m 0 c).owed t.succ = 0 from rfl]
  iintro ⟨⟨HS, HR, Hg⟩, ⟨%W, -, HW⟩, ⟨%d0, H0⟩, ⟨%d1, H1⟩, ⟨%d2, H2⟩, ⟨%d3, H3⟩⟩
  iapply (body_attend c _ _ _ _ _ _ _ _ (ffOf m c) (wOf m c) (bOf m c) (grid0.coords t) (chunkOf t.val) (loads_sub t) _ _ _
    (midAt m c t.val) (iblk m c 0 t) (ring_land c (ffOf m c) t) (part2_at m c _ _ _ _ _ _ _ _ W t))
  isplitl [HS HR H1 H2 HW]
  · isplitl [HS]; · iexact HS
    isplitl [HR]; · iexact HR
    isplitl [H1 H2]
    · isplitl [H1]; · iexact H1
      iexact H2
    iexact HW
  isplitl [H0]; · iexact H0
  isplitl [H3]; · iexists _; iexact H3
  iintro ⟨HS, HR, ⟨H1, H2⟩, ⟨%W', HW⟩, H0, H3⟩
  isplitl [HS HR Hg]
  · isplitl [HS]
    · rw [show scrAt m c (t.val + 1) = scr c ((midAt m c t.val).attend (landedF c (ffOf m c)) (ptc t.val)) from rfl, ptc_val]
      iexact HS
    isplitl [HR]; · iexact HR
    iexact Hg
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The buffer left in HBM that the transfers read. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄)
      = iprop(ftM.view.loc (c : Thread nD τ) ↦{fullShare} V m c main_arg0) := by
  rw [BI.bigSep_eq_bigSepL_of_eq [main_arg0] (by decide) (by decide)]; rfl

theorem bigSep_5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem chunks_disjoint (k k' : Fin 5) (h : k ≠ k') :
    Disjoint (Rect.unit (s := S100000x128) ![20000 * k.val, 0] S20000x128.size (inbK k)).set
      (Rect.unit (s := S100000x128) ![20000 * k'.val, 0] S20000x128.size (inbK k')).set := by
  refine Ring.lead_disjoint (s := S100000x128) (NB := 5) 0 20000 (fun k : Fin 5 => ![20000 * k.val, 0]) S20000x128.size inbK ?_ ?_ k k' h
  · exact fun _ => rfl
  · rfl

theorem chunks_cover :
    Finset.univ.biUnion (fun k : Fin 5 => (Rect.unit (s := S100000x128) ![20000 * k.val, 0] S20000x128.size (inbK k)).set) = Finset.univ := by
  refine Ring.lead_cover (s := S100000x128) (NB := 5) 0 20000 (fun k : Fin 5 => ![20000 * k.val, 0]) S20000x128.size inbK ?_ ?_ ?_ ?_ ?_
  · exact fun _ => rfl
  · intro k a ha; fin_cases a
    · exact absurd rfl ha
    · rfl
  · rfl
  · intro a ha; fin_cases a
    · exact absurd rfl ha
    · rfl
  · rfl

/-- The array held whole is its five chunks held, at the same contents. -/
theorem src_split (c : Dev nD) (ff : BufAt (F := F) c ftM) :
    (ftM.view.loc (c : Thread nD τ) ↦{fullShare} ff : sProp 𝕄) = iprop(home c ff 0 ∗ home c ff 1 ∗ home c ff 2 ∗ home c ff 3 ∗ home c ff 4) := by
  rw [Ring.pointsTo_blocks (fun k : Fin 5 => (srcM k).view.set) (fun k k' h => by
      rw [show (srcM k).view.set = _ from View.set_slice_whole main_arg0 _, show (srcM k').view.set = _ from View.set_slice_whole main_arg0 _]
      exact chunks_disjoint k k' h) (by
      rw [← chunks_cover]
      exact congrArg _ (funext fun k => View.set_slice_whole main_arg0 _)) ff, bigSep_5]
theorem dst_split (c : Dev nD) (f : BufAt (F := F) c fvM) :
    (fvM.view.loc (c : Thread nD τ) ↦{fullShare} f : sProp 𝕄)
      = iprop(ptAt c (dstM 0) f ∗ ptAt c (dstM 1) f ∗ ptAt c (dstM 2) f ∗ ptAt c (dstM 3) f ∗ ptAt c (dstM 4) f) := by
  rw [Ring.pointsTo_blocks (fun k : Fin 5 => (dstM k).view.set) (fun k k' h => by
      rw [show (dstM k).view.set = _ from View.set_slice_whole cc0_scratch4 _, show (dstM k').view.set = _ from View.set_slice_whole cc0_scratch4 _]
      exact chunks_disjoint k k' h) (by
      rw [← chunks_cover]
      exact congrArg _ (funext fun k => View.set_slice_whole cc0_scratch4 _)) f, bigSep_5]

theorem PhiD0_eq (c : Dev nD) :
    (Pipeline.ΦD osem0 spec0 H0 (V m) c : sProp 𝕄)
      = iprop(iprop((∃ d, owns (c : Thread nD τ) hM fullShare d) ∗ (∃ d, owns (c : Thread nD τ) cM fullShare d)
                ∗ (∃ d, owns (c : Thread nD τ) qM fullShare d) ∗ (∃ d, owns (c : Thread nD τ) rM fullShare d)
                ∗ (∃ f, fvM.view.loc (c : Thread nD τ) ↦{fullShare} f))
          ∗ (∃ r, prngReg c r) ∗ iprop(cell0 c ∗ cell1 c) ∗ iprop(ftM.view.loc (c : Thread nD τ) ↦{fullShare} V m c main_arg0)) := by
  rw [Pipeline.ΦD_eq, scopedRest0_eq, ownSems00_eq, hbmPts0_eq]
  simp only [hM, cM, qM, rM, owns_whole]; try rfl

theorem phi_in (c : Dev nD) : Pipeline.ΦD osem0 spec0 H0 (V m) c ⊢ (dats m 0 c).Φ 0 := by
  rw [PhiD0_eq, show (dats m 0 c).Φ 0 = iprop(scrAny c ∗ ring c (ffOf m c) 0 ∗ (∃ r, prngReg c r)) from rfl, ring_0, src_split]
  iintro ⟨⟨H0, H1, H2, H3, ⟨%f, H4⟩⟩, Hg, ⟨Hc0, Hc1⟩, Hs0, Hs1, Hs2, Hs3, Hs4⟩
  ihave HX := (Entails.of_eq (dst_split c f)) $$ H4
  icases HX with ⟨Hd0, Hd1, Hd2, Hd3, Hd4⟩
  isplitl [H0 H1 H2 H3]
  · isplitl [H0]; · iexact H0
    isplitl [H1]; · iexact H1
    isplitl [H2]; · iexact H2
    iexact H3
  isplitr [Hg]
  · isplitl [Hd0]; · iexists f; iexact Hd0
    isplitl [Hd1]; · iexists f; iexact Hd1
    isplitl [Hd2]; · iexists f; iexact Hd2
    isplitl [Hd3]; · iexists f; iexact Hd3
    isplitl [Hd4]; · iexists f; iexact Hd4
    isplitl [Hs0]; · iexact Hs0
    isplitl [Hs1]; · iexact Hs1
    isplitl [Hs2]; · iexact Hs2
    isplitl [Hs3]; · iexact Hs3
    isplitl [Hs4]; · iexact Hs4
    isplitl [Hc0]; · iexact Hc0
    iexact Hc1
  iexact Hg

theorem phi_out (c : Dev nD) : (dats m 0 c).Φ (Fin.last cfg0.N) ⊢ Pipeline.ΦD osem0 spec0 H0 (V m) c := by
  rw [PhiD0_eq, show (dats m 0 c).Φ (Fin.last cfg0.N) = iprop(scr c (stAt m c 15) ∗ ring c (ffOf m c) (10 + 5) ∗ (∃ r, prngReg c r)) from rfl, ring_5, src_split]
  iintro ⟨⟨H0, H1, H2, H3⟩, ⟨Hd0, Hd1, Hd2, Hd3, Hd4, Hs0, Hs1, Hs2, Hs3, Hs4, Hc0, Hc1⟩, Hg⟩
  isplitl [H0 H1 H2 H3 Hd0 Hd1 Hd2 Hd3 Hd4]
  · isplitl [H0]; · iexists _; iexact H0
    isplitl [H1]; · iexists _; iexact H1
    isplitl [H2]; · iexists _; iexact H2
    isplitl [H3]; · iexists _; iexact H3
    iexists (landedF c (ffOf m c))
    rw [dst_split]
    isplitl [Hd0]; · iexact Hd0
    isplitl [Hd1]; · iexact Hd1
    isplitl [Hd2]; · iexact Hd2
    isplitl [Hd3]; · iexact Hd3
    iexact Hd4
  isplitl [Hg]; · iexact Hg
  isplitl [Hc0 Hc1]
  · isplitl [Hc0]; · iexact Hc0
    iexact Hc1
  isplitl [Hs0]; · iexact Hs0
  isplitl [Hs1]; · iexact Hs1
  isplitl [Hs2]; · iexact Hs2
  isplitl [Hs3]; · iexact Hs3
  iexact Hs4

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The frame claim with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  frame_of m ρ (dats m) (A_eq m) (run_main m ρ)

end Cert.KernelIdeal.Hand

end
-- ==== Proof.Spec.lean ====
/-
  The Set2Set readout in plain terms: three LSTM steps over 200 graphs, each followed by a softmax attention of the
  graph's query over its own 500 atoms, every value an extended real. Both programs are read as this function.
-/
module

public import Idealize.ShloMosaic.PureOps.Ideal.Laws
public import Idealize.ShloMosaic.Lib.IdealHost

@[expose] public section

noncomputable section

namespace Cert.S2S

open Idealize.ShloMosaic
open scoped BigOperators

/-- One value per graph and feature column. -/
abbrev Mat := Fin 200 → Fin 128 → EReal

/-- The logistic function, as both programs write it. -/
def sigm (x : EReal) : EReal := Ideal.div 1 (1 + Ideal.exp (-x))

/-- The LSTM's weights and biases. -/
structure Weights where
  wi : Fin 512 → Fin 256 → EReal
  wh : Fin 512 → Fin 128 → EReal
  bi : Fin 512 → EReal
  bh : Fin 512 → EReal

/-- The query, the readout, the hidden state and the cell state of every graph. -/
@[ext] structure State where
  q : Mat
  r : Mat
  h : Mat
  c : Mat

/-- The state before the first step. -/
def State.zero : State := ⟨fun _ _ => 0, fun _ _ => 0, fun _ _ => 0, fun _ _ => 0⟩

/-- The pre-activation of gate `g` of graph `b`. -/
def gate (W : Weights) (s : State) (b : Fin 200) (g : Fin 512) : EReal :=
  ((∑ k : Fin 128, s.q b k * W.wi g ⟨k.val, by omega⟩) + (∑ k : Fin 128, s.r b k * W.wi g ⟨128 + k.val, by omega⟩)
    + ∑ k : Fin 128, s.h b k * W.wh g k) + (W.bi g + W.bh g)

/-- The new cell state. -/
def cNew (W : Weights) (s : State) : Mat := fun b d =>
  sigm (gate W s b ⟨128 + d.val, by omega⟩) * s.c b d
    + sigm (gate W s b ⟨d.val, by omega⟩) * Ideal.tanh (gate W s b ⟨256 + d.val, by omega⟩)

/-- The new hidden state. -/
def hNew (W : Weights) (s : State) : Mat := fun b d =>
  sigm (gate W s b ⟨384 + d.val, by omega⟩) * Ideal.tanh (cNew W s b d)

/-- Atom `k` of graph `b`. -/
def atom (b : Fin 200) (k : Fin 500) : Fin 100000 := ⟨500 * b.val + k.val, by omega⟩

/-- The scores of a graph's atoms against its query. -/
def score (X : Fin 100000 → Fin 128 → EReal) (q : Mat) (b : Fin 200) (k : Fin 500) : EReal :=
  ∑ d : Fin 128, q b d * X (atom b k) d

/-- The largest of 500 scores. -/
def top (e : Fin 500 → EReal) : EReal := Finset.univ.sup e

/-- The unnormalised softmax weights. -/
def wt (e : Fin 500 → EReal) (k : Fin 500) : EReal := Ideal.exp (e k - top e)

/-- Their sum. -/
def den (e : Fin 500 → EReal) : EReal := ∑ k, wt e k

/-- The readout of a graph: the weighted sum of its atoms' features, divided by the weights' sum. -/
def readout (X : Fin 100000 → Fin 128 → EReal) (q : Mat) : Mat := fun b d =>
  (∑ k : Fin 500, wt (score X q b) k * X (atom b k) d) * Ideal.div 1 (den (score X q b))

/-- One step. -/
def step (X : Fin 100000 → Fin 128 → EReal) (W : Weights) (s : State) : State :=
  ⟨hNew W s, readout X (hNew W s), hNew W s, cNew W s⟩

/-- The state after `n` steps. -/
def state (X : Fin 100000 → Fin 128 → EReal) (W : Weights) : ℕ → State
  | 0 => State.zero
  | n + 1 => step X W (state X W n)

/-! ## Finiteness -/

/-- The value is a real number. -/
def IsReal (x : EReal) : Prop := ∃ r : ℝ, x = (r : EReal)

theorem IsReal.zero : IsReal 0 := ⟨0, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem div_coe (a : ℝ) {b : ℝ} (hb : b ≠ 0) : Ideal.div (a : EReal) (b : EReal) = ((a * b⁻¹ : ℝ) : EReal) := by
  unfold Ideal.div
  rw [if_neg (by exact_mod_cast hb), EReal.coe_mul, EReal.coe_inv]

theorem IsReal.sigm (x : EReal) : IsReal (sigm x) := by
  unfold S2S.sigm
  induction x using EReal.rec with
  | bot =>
    refine ⟨0, ?_⟩
    rw [EReal.neg_bot]
    show Ideal.div 1 (1 + ⊤) = _
    have h : (1 : EReal) + ⊤ = ⊤ := EReal.add_top_of_ne_bot (by decide)
    rw [h]; unfold Ideal.div; rw [if_neg (by decide)]; simp
  | top =>
    refine ⟨1, ?_⟩
    rw [EReal.neg_top]
    show Ideal.div 1 (1 + 0) = _
    rw [add_zero]
    have h := div_coe 1 (b := 1) one_ne_zero
    simpa using h
  | coe r =>
    have h : Ideal.exp (-(r : EReal)) = ((Real.exp (-r) : ℝ) : EReal) := rfl
    have h1 : (1 : EReal) + ((Real.exp (-r) : ℝ) : EReal) = ((1 + Real.exp (-r) : ℝ) : EReal) := by
      rw [EReal.coe_add]; rfl
    rw [h, h1]
    exact ⟨_, div_coe 1 (by have := Real.exp_pos (-r); linarith)⟩

theorem IsReal.tanh (x : EReal) : IsReal (Ideal.tanh x) := by
  induction x using EReal.rec with
  | bot => exact ⟨-1, by rw [EReal.coe_neg]; rfl⟩
  | top => exact ⟨1, rfl⟩
  | coe r => exact ⟨_, rfl⟩

/-- The hidden state is real whatever the gates. -/
theorem IsReal.cNew (W : Weights) (s : State) (hc : ∀ b d, IsReal (s.c b d)) (b : Fin 200) (d : Fin 128) : IsReal (cNew W s b d) :=
  ((IsReal.sigm _).mul (hc b d)).add ((IsReal.sigm _).mul (IsReal.tanh _))

theorem IsReal.hNew (W : Weights) (s : State) (b : Fin 200) (d : Fin 128) : IsReal (hNew W s b d) :=
  (IsReal.sigm _).mul (IsReal.tanh _)

theorem IsReal.score (X : Fin 100000 → Fin 128 → EReal) (q : Mat) (hX : ∀ n d, IsReal (X n d)) (hq : ∀ b d, IsReal (q b d))
    (b : Fin 200) (k : Fin 500) : IsReal (score X q b k) :=
  IsReal.sum _ _ fun d => (hq b d).mul (hX _ d)

/-- Of real scores the weights are positive reals and so is their sum. -/
theorem wt_real (e : Fin 500 → EReal) (he : ∀ k, IsReal (e k)) : ∃ w : Fin 500 → ℝ, (∀ k, wt e k = (w k : EReal)) ∧ ∀ k, 0 < w k := by
  choose g hg using he
  obtain ⟨k₀, -, hk₀⟩ := Finset.exists_mem_eq_sup (Finset.univ : Finset (Fin 500)) ⟨0, Finset.mem_univ _⟩ e
  refine ⟨fun k => Real.exp (g k - g k₀), fun k => ?_, fun k => Real.exp_pos _⟩
  have ht : top e = (g k₀ : EReal) := by unfold top; rw [hk₀, hg]
  unfold wt
  rw [ht, hg k, ← EReal.coe_sub]
  rfl

/-- Of real scores and features, dividing the weighted sum is summing the divided weights. -/
theorem readout_eq (e x : Fin 500 → EReal) (he : ∀ k, IsReal (e k)) (hx : ∀ k, IsReal (x k)) :
    (∑ k : Fin 500, wt e k * x k) * Ideal.div 1 (den e) = ∑ k : Fin 500, x k * Ideal.div (wt e k) (den e) := by
  obtain ⟨w, hw, hpos⟩ := wt_real e he
  choose y hy using hx
  have hd : den e = ((∑ k, w k : ℝ) : EReal) := by
    unfold den; rw [coe_sum]; exact Finset.sum_congr rfl fun k _ => hw k
  have hd0 : (∑ k, w k) ≠ 0 := (Finset.sum_pos (fun k _ => hpos k) ⟨0, Finset.mem_univ _⟩).ne'
  have hl : (∑ k : Fin 500, wt e k * x k) = ((∑ k, w k * y k : ℝ) : EReal) := by
    rw [coe_sum]; exact Finset.sum_congr rfl fun k _ => by rw [hw, hy, EReal.coe_mul]
  have hr : ∀ k, x k * Ideal.div (wt e k) (den e) = ((y k * (w k * (∑ k, w k)⁻¹) : ℝ) : EReal) := fun k => by
    rw [hw, hd, hy, div_coe _ hd0, ← EReal.coe_mul]
  have h1 : Ideal.div 1 (den e) = ((1 * (∑ k, w k)⁻¹ : ℝ) : EReal) := by rw [hd]; exact div_coe 1 hd0
  rw [hl, h1, ← EReal.coe_mul, Finset.sum_congr rfl fun k _ => hr k, ← coe_sum]
  congr 1
  rw [Finset.sum_mul]
  exact Finset.sum_congr rfl fun k _ => by ring

/-! ## A block of 500 lanes out of many -/

/-- A sum over all lanes that counts only those of block `p`. -/
theorem sum_block {M : Type} [AddCommMonoid M] {N K : ℕ} (hN : N = K * 500) (p : Fin K) (f : Fin N → M) (P : Fin N → Prop)
    [DecidablePred P] (hP : ∀ n, P n ↔ n.val / 500 = p.val) :
    ∑ n ∈ Finset.univ.filter P, f n = ∑ s : Fin 500, f ⟨500 * p.val + s.val, by have := p.isLt; have := s.isLt; omega⟩ := by
  refine Finset.sum_bij' (fun n _ => (⟨n.val % 500, Nat.mod_lt _ (by decide)⟩ : Fin 500))
    (fun s _ => (⟨500 * p.val + s.val, by have := p.isLt; have := s.isLt; omega⟩ : Fin N)) ?_ ?_ ?_ ?_ ?_
  · intro n _; exact Finset.mem_univ _
  · intro s _
    rw [Finset.mem_filter]
    exact ⟨Finset.mem_univ _, (hP _).2 (by show (500 * p.val + s.val) / 500 = p.val; have := s.isLt; omega)⟩
  · intro n hn
    have h := (hP n).1 (Finset.mem_filter.1 hn).2
    exact Fin.ext (by show 500 * p.val + n.val % 500 = n.val; omega)
  · intro s _
    exact Fin.ext (by show (500 * p.val + s.val) % 500 = s.val; have := s.isLt; omega)
  · intro n hn
    have h := (hP n).1 (Finset.mem_filter.1 hn).2
    exact congrArg f (Fin.ext (by show n.val = 500 * p.val + n.val % 500; omega))

/-- The largest over all lanes, those of other blocks read as `⊥`. -/
theorem sup_block {N K : ℕ} (hN : N = K * 500) (p : Fin K) (f g : Fin N → EReal)
    (hg : ∀ n, g n = if n.val / 500 = p.val then f n else ⊥) :
    Finset.univ.sup g = Finset.univ.sup fun s : Fin 500 => f ⟨500 * p.val + s.val, by have := p.isLt; have := s.isLt; omega⟩ := by
  apply le_antisymm
  · refine Finset.sup_le fun n _ => ?_
    rw [hg]
    split
    · rename_i h
      refine le_trans (le_of_eq (congrArg f (Fin.ext ?_)))
        (Finset.le_sup (f := fun s : Fin 500 => f ⟨500 * p.val + s.val, by have := p.isLt; have := s.isLt; omega⟩)
          (Finset.mem_univ (⟨n.val % 500, Nat.mod_lt _ (by decide)⟩ : Fin 500)))
      show n.val = 500 * p.val + n.val % 500
      omega
    · exact bot_le
  · refine Finset.sup_le fun s _ => ?_
    refine le_trans (le_of_eq ?_) (Finset.le_sup (f := g)
      (Finset.mem_univ (⟨500 * p.val + s.val, by have := p.isLt; have := s.isLt; omega⟩ : Fin N)))
    rw [hg, if_pos (by show (500 * p.val + s.val) / 500 = p.val; have := s.isLt; omega)]

/-- A sum over all lanes of a masked value. -/
theorem sum_mask {N K : ℕ} (hN : N = K * 500) (p : Fin K) (f g : Fin N → EReal)
    (hg : ∀ n, g n = if n.val / 500 = p.val then f n else 0) :
    ∑ n, g n = ∑ s : Fin 500, f ⟨500 * p.val + s.val, by have := p.isLt; have := s.isLt; omega⟩ := by
  rw [Finset.sum_congr rfl fun n _ => hg n, ← Finset.sum_filter]
  exact sum_block hN p f _ fun n => Iff.rfl

end Cert.S2S

end
-- ==== Proof.KernelIdeal.Gates.lean ====
/-
  The LSTM step of the kernel's body, read element by element at the extended reals.
-/
module

public import proofs.«01_k».proof.Proof.Spec
public import proofs.«01_k».proof.Proof.KernelIdeal.Body
public import Idealize.ShloMosaic.Lib.Pointwise

@[expose] public section

set_option maxRecDepth 16384

noncomputable section

namespace Cert.KernelIdeal.Hand

open Cert.KernelIdeal Cert.KernelIdeal.Gen
open Idealize.ShloMosaic
open Cert.S2S

/-- The kernel's four scratch buffers as the state of the specification. -/
def rd (s : St Ideal) : S2S.State :=
  ⟨fun b d => s.q (ix2 b d), fun b d => s.r (ix2 b d), fun b d => s.h (ix2 b d), fun b d => s.c (ix2 b d)⟩

/-- The stacked weights and the summed biases are those of `W`. -/
structure Holds (W : Weights) (w : Vec Ideal S384x512 .f32) (b : Vec Ideal S1x512 .f32) : Prop where
  lo : ∀ (k : Fin 256) (g : Fin 512), w (ix2 ⟨k.val, by omega⟩ g) = W.wi g k
  hi : ∀ (k : Fin 128) (g : Fin 512), w (ix2 ⟨256 + k.val, by omega⟩ g) = W.wh g k
  bias : ∀ g : Fin 512, b (ix2 0 g) = W.bi g + W.bh g

/-- A sum over 384 columns in three parts of 128. -/
theorem sum_three (f : Fin 384 → EReal) :
    ∑ x, f x = ((∑ k : Fin 128, f ⟨k.val, by omega⟩) + ∑ k : Fin 128, f ⟨128 + k.val, by omega⟩) + ∑ k : Fin 128, f ⟨256 + k.val, by omega⟩ := by
  rw [Fin.sum_univ_two_halves 256 128 rfl f, Fin.sum_univ_two_halves 128 128 rfl fun k : Fin 256 => f ⟨k.val, by omega⟩]

theorem pay4_apply (h q r : Vec Ideal S200x128 .f32) (w : Vec Ideal S384x512 .f32) (b : Vec Ideal S1x512 .f32) (a : Fin 200) (g : Fin 512) :
    k0_pay4 h q r w b (ix2 a g)
      = (((∑ k : Fin 128, q (ix2 a k) * w (ix2 ⟨k.val, by omega⟩ g)) + ∑ k : Fin 128, r (ix2 a k) * w (ix2 ⟨128 + k.val, by omega⟩ g))
          + ∑ k : Fin 128, h (ix2 a k) * w (ix2 ⟨256 + k.val, by omega⟩ g)) + b (ix2 0 g) := by
  pointwise [k0_pay4]
  rw [sum_three]
  refine congrArg (· + _) (congr (congrArg _ (congr (congrArg _ ?_) ?_)) ?_)
  · refine Finset.sum_congr rfl fun k _ => ?_
    rw [dif_pos k.isLt]
  · refine Finset.sum_congr rfl fun k _ => ?_
    rw [dif_neg (by show ¬(128 + k.val < 128); omega), dif_pos (by show 128 + k.val - 128 < 128; omega)]
    refine congrArg (fun z : Fin 128 => r (ix2 a z) * _) (Fin.ext ?_)
    show 128 + k.val - 128 = k.val
    omega
  · refine Finset.sum_congr rfl fun k _ => ?_
    rw [dif_neg (by show ¬(256 + k.val < 128); omega), dif_neg (by show ¬(256 + k.val - 128 < 128); omega)]
    refine congrArg (fun z : Fin 128 => h (ix2 a z) * _) (Fin.ext ?_)
    show 256 + k.val - 128 - 128 = k.val
    omega

/-- A pre-activation of the kernel is the specification's. -/
theorem gate_eq {W : Weights} {w : Vec Ideal S384x512 .f32} {b : Vec Ideal S1x512 .f32} (H : Holds W w b) (s : St Ideal) (a : Fin 200) (g : Fin 512) :
    k0_pay4 s.h s.q s.r w b (ix2 a g) = gate W (rd s) a g := by
  rw [pay4_apply, H.bias]
  unfold gate
  refine congrArg (· + _) (congr (congrArg _ (congr (congrArg _ ?_) ?_)) ?_)
  · exact Finset.sum_congr rfl fun k _ => by rw [← H.lo]; rfl
  · exact Finset.sum_congr rfl fun k _ => by rw [← H.lo]; rfl
  · exact Finset.sum_congr rfl fun k _ => by rw [← H.hi]; rfl

theorem pay5_apply (h q r : Vec Ideal S200x128 .f32) (w : Vec Ideal S384x512 .f32) (b : Vec Ideal S1x512 .f32) (a : Fin 200) (d : Fin 128) :
    k0_pay5 h q r w b (ix2 a d) = sigm (k0_pay4 h q r w b (ix2 a ⟨d.val, by omega⟩)) := by
  pointwise [k0_pay5, sigm]
  rw [zero_sub]

theorem pay6_apply (h q r : Vec Ideal S200x128 .f32) (w : Vec Ideal S384x512 .f32) (b : Vec Ideal S1x512 .f32) (a : Fin 200) (d : Fin 128) :
    k0_pay6 h q r w b (ix2 a d) = sigm (k0_pay4 h q r w b (ix2 a ⟨128 + d.val, by omega⟩)) := by
  pointwise [k0_pay6, sigm]
  rw [zero_sub]

theorem pay7_apply (h q r : Vec Ideal S200x128 .f32) (w : Vec Ideal S384x512 .f32) (b : Vec Ideal S1x512 .f32) (a : Fin 200) (d : Fin 128) :
    k0_pay7 h q r w b (ix2 a d) = Ideal.tanh (k0_pay4 h q r w b (ix2 a ⟨256 + d.val, by omega⟩)) := by
  pointwise [k0_pay7]

theorem pay8_apply (h q r : Vec Ideal S200x128 .f32) (w : Vec Ideal S384x512 .f32) (b : Vec Ideal S1x512 .f32) (a : Fin 200) (d : Fin 128) :
    k0_pay8 h q r w b (ix2 a d) = sigm (k0_pay4 h q r w b (ix2 a ⟨384 + d.val, by omega⟩)) := by
  pointwise [k0_pay8, sigm]
  rw [zero_sub]

theorem pay13_apply (c i f g : Vec Ideal S200x128 .f32) (a : Fin 200) (d : Fin 128) :
    k0_pay13 c i f g (ix2 a d) = f (ix2 a d) * c (ix2 a d) + i (ix2 a d) * g (ix2 a d) := by
  pointwise [k0_pay13]

theorem pay14_apply (c i f g o : Vec Ideal S200x128 .f32) (a : Fin 200) (d : Fin 128) :
    k0_pay14 c i f g o (ix2 a d) = o (ix2 a d) * Ideal.tanh (k0_pay13 c i f g (ix2 a d)) := by
  pointwise [k0_pay14]

/-- The kernel's LSTM step is the specification's; the readout stands. -/
theorem rd_lstm {W : Weights} {w : Vec Ideal S384x512 .f32} {b : Vec Ideal S1x512 .f32} (H : Holds W w b) (s : St Ideal) :
    rd (s.lstm w b) = ⟨hNew W (rd s), (rd s).r, hNew W (rd s), cNew W (rd s)⟩ := by
  have hc : ∀ a d, k0_pay13 s.c (k0_pay5 s.h s.q s.r w b) (k0_pay6 s.h s.q s.r w b) (k0_pay7 s.h s.q s.r w b) (ix2 a d) = cNew W (rd s) a d := fun a d => by
    rw [pay13_apply, pay5_apply, pay6_apply, pay7_apply, gate_eq H, gate_eq H, gate_eq H]; rfl
  have hh : ∀ a d, k0_pay14 s.c (k0_pay5 s.h s.q s.r w b) (k0_pay6 s.h s.q s.r w b) (k0_pay7 s.h s.q s.r w b) (k0_pay8 s.h s.q s.r w b) (ix2 a d)
      = hNew W (rd s) a d := fun a d => by
    rw [pay14_apply, hc, pay8_apply, gate_eq H]; rfl
  refine S2S.State.ext ?_ rfl ?_ ?_
  · funext a d
    refine Eq.trans ?_ (hh a d)
    show k0_pay17 _ _ _ _ _ (ix2 a d) = _
    pointwise [k0_pay17]
  · funext a d
    refine Eq.trans ?_ (hh a d)
    show k0_pay15 _ _ _ _ _ (ix2 a d) = _
    pointwise [k0_pay15]
  · funext a d
    refine Eq.trans ?_ (hc a d)
    show k0_pay16 _ _ _ _ (ix2 a d) = _
    pointwise [k0_pay16]

/-- The scratch starts at zero. -/
theorem rd_zero : rd (St.zero : St Ideal) = S2S.State.zero := by
  refine S2S.State.ext ?_ ?_ ?_ ?_
  · funext a d; show k0_pay11 (ix2 a d) = 0; pointwise [k0_pay11]
  · funext a d; show k0_pay12 (ix2 a d) = 0; pointwise [k0_pay12]
  · funext a d; show k0_pay9 (ix2 a d) = 0; pointwise [k0_pay9]
  · funext a d; show k0_pay10 (ix2 a d) = 0; pointwise [k0_pay10]

end Cert.KernelIdeal.Hand

end
-- ==== Proof.KernelIdeal.Attend.lean ====
/-
  The attention of the kernel's body, read element by element at the extended reals: of the 4000 lanes of a chunk a
  graph's row keeps its own 500.
-/
module

public import proofs.«01_k».proof.Proof.KernelIdeal.Gates
public import Idealize.ShloMosaic.Lib.Routing.Words

@[expose] public section

set_option maxRecDepth 16384

noncomputable section

namespace Cert.KernelIdeal.Hand

open Cert.KernelIdeal Cert.KernelIdeal.Gen
open Idealize.ShloMosaic
open Cert.S2S

/-- Row `p` of the mask holds the lanes of atom group `p`. -/
theorem mask_apply (p : Fin 8) (x : Fin 4000) : mask (ix2 p x) = if x.val / 500 = p.val then 1#1 else 0#1 := by
  pointwise [mask, k0_pay21, k0_pay18, k0_pay19, k0_pay20]
  have hx := x.isLt
  have hp := p.isLt
  have hd : IntOp.divsi .vector (BitVec.ofNat 32 x.val) 500#32 = BitVec.ofNat 32 (x.val / 500) :=
    Routing.divsi_word .vector (by omega) (by decide) (by decide)
  have hr : IntOp.remsi .vector (BitVec.ofNat 32 x.val) 500#32 = BitVec.ofNat 32 (x.val % 500) :=
    Routing.remsi_word .vector (by omega) (by decide) (by decide)
  rw [hd, hr]
  have hs : ∀ a b : BitVec 32, Scalar.select (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 500#32 0#32))
              (Scalar.extui (Scalar.cmpi CmpIPredicate.slt 500#32 0#32))))
          (IntOp.cmpi CmpIPredicate.ne (BitVec.ofNat 32 (x.val % 500)) 0#32)) a b = b := by
    intro a b
    rcases Nat.eq_zero_or_pos x.val with h0 | h0
    · rw [h0]; rfl
    · have h1 : IntOp.cmpi CmpIPredicate.sgt (BitVec.ofNat 32 x.val) 0#32 = 1#1 := by
        have : (0#32 : BitVec 32).slt (BitVec.ofNat 32 x.val) = true := by
          rw [show (0#32 : BitVec 32) = BitVec.ofNat 32 0 from rfl, Routing.slt_ofNat32 (by decide) (by omega)]; simpa using h0
        show BitVec.ofBool ((0#32 : BitVec 32).slt (BitVec.ofNat 32 x.val)) = 1#1
        rw [this]; rfl
      have h2 : IntOp.cmpi CmpIPredicate.slt (BitVec.ofNat 32 x.val) 0#32 = 0#1 := by
        have : (BitVec.ofNat 32 x.val).slt (0#32 : BitVec 32) = false := by
          rw [show (0#32 : BitVec 32) = BitVec.ofNat 32 0 from rfl, Routing.slt_ofNat32 (by omega) (by decide)]; simp
        show BitVec.ofBool ((BitVec.ofNat 32 x.val).slt (0#32 : BitVec 32)) = 0#1
        rw [this]; rfl
      rw [h1, h2]
      have h3 : IntOp.cmpi CmpIPredicate.ne
            (IntOp.subi (BitVec.setWidth 32 1#1) (BitVec.setWidth 32 0#1))
            (Scalar.subi (Scalar.extui (Scalar.cmpi CmpIPredicate.sgt 500#32 0#32))
              (Scalar.extui (Scalar.cmpi CmpIPredicate.slt 500#32 0#32))) = 0#1 := by decide
      rw [h3]
      show Scalar.select (0#1 &&& _) a b = b
      rw [BitVec.zero_and]; rfl
  rw [hs]
  show BitVec.ofBool (BitVec.ofNat 32 (x.val / 500) == BitVec.ofNat 32 p.val) = _
  by_cases h : x.val / 500 = p.val
  · rw [if_pos h, h]; simp
  · rw [if_neg h]
    have : (BitVec.ofNat 32 (x.val / 500) == BitVec.ofNat 32 p.val) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    rw [this]; rfl

theorem mask_select (p : Fin 8) (x : Fin 4000) (a b : EReal) : Scalar.select (mask (ix2 p x)) a b = if x.val / 500 = p.val then a else b := by
  rw [mask_apply]
  split <;> rfl

theorem bot_bits : Ideal.ofBits FTy.f32 4286578688#32 = ⊥ := by simp [Ideal.ofBits, Ideal.ieee]

/-- The weight of lane `x` in row `p`, as the body computes it from the row's scores. -/
def kex (E : Fin 4000 → EReal) (p : Fin 8) (x : Fin 4000) : EReal :=
  Scalar.select (mask (ix2 p x)) (Ideal.exp (E x - Finset.fold max (Ideal.ofBits FTy.f32 4286578688#32)
    (fun y => Scalar.select (mask (ix2 p y)) (E y) (Ideal.ofBits FTy.f32 4286578688#32)) Finset.univ)) 0

/-- Lane `k` of atom group `p` of a chunk. -/
abbrev lane (p : Fin 8) (k : Fin 500) : Fin 4000 := ⟨500 * p.val + k.val, by omega⟩

theorem kex_eq (E : Fin 4000 → EReal) (p : Fin 8) (x : Fin 4000) :
    kex E p x = if x.val / 500 = p.val then Ideal.exp (E x - top fun k => E (lane p k)) else 0 := by
  unfold kex
  rw [mask_select, bot_bits]
  have h : Finset.fold max ⊥ (fun y => Scalar.select (mask (ix2 p y)) (E y) ⊥) Finset.univ = top fun k => E (lane p k) :=
    sup_block (N := 4000) (K := 8) rfl p E (fun y => Scalar.select (mask (ix2 p y)) (E y) ⊥) fun n => mask_select p n _ _
  rw [h]

theorem kex_sum (E : Fin 4000 → EReal) (p : Fin 8) : ∑ x, kex E p x = den fun k => E (lane p k) :=
  sum_mask (N := 4000) (K := 8) rfl p (fun x => Ideal.exp (E x - top fun k => E (lane p k))) _ (kex_eq E p)

theorem kex_dot (E F : Fin 4000 → EReal) (p : Fin 8) :
    ∑ x, kex E p x * F x = ∑ k, wt (fun k => E (lane p k)) k * F (lane p k) :=
  sum_mask (N := 4000) (K := 8) rfl p (fun x => Ideal.exp (E x - top fun k => E (lane p k)) * F x) _ fun n => by
    rw [kex_eq]; split
    · rfl
    · exact zero_mul _

/-- The scores of a chunk against row `r` of the block's queries. -/
def lsc (q : Vec Ideal S40x128 .f32) (f : Vec Ideal S4000x128 .f32) (r : Fin 40) (x : Fin 4000) : EReal := ∑ j, q (ix2 r j) * f (ix2 x j)

/-- The readout of row `8 h + p` of a block from the chunk `f`. -/
def crow (q : Vec Ideal S40x128 .f32) (f : Vec Ideal S4000x128 .f32) (r : Fin 40) (p : Fin 8) (d : Fin 128) : EReal :=
  (∑ k, wt (fun k => lsc q f r (lane p k)) k * f (ix2 (lane p k) d)) * Ideal.div 1 (den fun k => lsc q f r (lane p k))

theorem crow_of (q : Vec Ideal S40x128 .f32) (f : Vec Ideal S4000x128 .f32) (r : Fin 40) (p : Fin 8) (d : Fin 128) :
    (∑ x, kex (lsc q f r) p x * f (ix2 x d)) * Ideal.div 1 (∑ x, kex (lsc q f r) p x) = crow q f r p d := by
  rw [kex_dot (lsc q f r) (fun x => f (ix2 x d)) p, kex_sum]; rfl

section Rows
variable (q : Vec Ideal S40x128 .f32) (f : Vec Ideal S4000x128 .f32) (p : Fin 8) (x : Fin 4000) (d : Fin 128)

theorem pay25_apply : k0_pay25 mask f (k0_pay22 q) (constant S8x4000 .f32 0x00000000#32) (ix2 p x) = kex (lsc q f ⟨p.val, by omega⟩) p x := by
  pointwise [k0_pay25, k0_pay22, kex, lsc]

theorem pay27_apply : k0_pay27 q mask f (ix2 p x) = kex (lsc q f ⟨8 + p.val, by omega⟩) p x := by
  pointwise [k0_pay27, kex, lsc]

theorem pay29_apply : k0_pay29 q mask f (ix2 p x) = kex (lsc q f ⟨16 + p.val, by omega⟩) p x := by
  pointwise [k0_pay29, kex, lsc]

theorem pay32_apply : k0_pay32 mask (k0_pay24 q f) (ix2 p x) = kex (lsc q f ⟨32 + p.val, by omega⟩) p x := by
  pointwise [k0_pay32, k0_pay24, kex, lsc]

theorem row0 : k0_pay34 f (k0_pay25 mask f (k0_pay22 q) (constant S8x4000 .f32 0x00000000#32)) (k0_pay26 mask f (k0_pay22 q) (constant S8x4000 .f32 0x00000000#32)) (ix2 p d)
    = crow q f ⟨p.val, by omega⟩ p d := by
  pointwise [k0_pay34, k0_pay26]
  simp only [pay25_apply]
  exact crow_of _ _ _ _ _

theorem row1 : k0_pay35 f (k0_pay27 q mask f) (k0_pay28 q mask f) (ix2 p d) = crow q f ⟨8 + p.val, by omega⟩ p d := by
  pointwise [k0_pay35, k0_pay28]
  simp only [pay27_apply]
  exact crow_of _ _ _ _ _

theorem row2 : k0_pay36 f (k0_pay29 q mask f) (k0_pay30 q mask f) (ix2 p d) = crow q f ⟨16 + p.val, by omega⟩ p d := by
  pointwise [k0_pay36, k0_pay30]
  simp only [pay29_apply]
  exact crow_of _ _ _ _ _

theorem row3 : k0_pay37 mask f (k0_pay23 q f) k0_pay31 (ix2 p d) = crow q f ⟨24 + p.val, by omega⟩ p d := by
  rw [← crow_of]
  pointwise [k0_pay37, k0_pay23, k0_pay31, kex, lsc]

theorem row4 : k0_pay38 mask f (k0_pay24 q f) (ix2 p d) * Ideal.div ((k0_pay39 : FVec Ideal S8x1 .f32) (ix2 p 0)) (k0_pay33 mask (k0_pay24 q f) (ix2 p 0))
    = crow q f ⟨32 + p.val, by omega⟩ p d := by
  pointwise [k0_pay38, k0_pay39, k0_pay33]
  simp only [pay32_apply]
  exact crow_of _ _ _ _ _

end Rows

/-- The five chunks of a block by number. -/
def chunk (f0 f1 f2 f3 f4 : Vec Ideal S4000x128 .f32) : Fin 5 → Vec Ideal S4000x128 .f32
  | 0 => f0 | 1 => f1 | 2 => f2 | 3 => f3 | 4 => f4

/-- The concatenated readout rows. -/
theorem pay1_apply (q : Vec Ideal S40x128 .f32) (f0 f1 f2 f3 f4 : Vec Ideal S4000x128 .f32) (h : Fin 5) (p : Fin 8) (d : Fin 128) :
    k0_pay1 (k0_pay33 mask (k0_pay24 q f4))
    (k0_pay34 f0 (k0_pay25 mask f0 (k0_pay22 q) (constant S8x4000 .f32 0x00000000#32)) (k0_pay26 mask f0 (k0_pay22 q) (constant S8x4000 .f32 0x00000000#32)))
    (k0_pay35 f1 (k0_pay27 q mask f1) (k0_pay28 q mask f1))
    (k0_pay36 f2 (k0_pay29 q mask f2) (k0_pay30 q mask f2))
    (k0_pay37 mask f3 (k0_pay23 q f3) k0_pay31)
    (k0_pay38 mask f4 (k0_pay24 q f4)) k0_pay39 (ix2 ⟨8 * h.val + p.val, by omega⟩ d)
      = crow q (chunk f0 f1 f2 f3 f4 h) ⟨8 * h.val + p.val, by omega⟩ p d := by
  have hp := p.isLt
  pointwise [k0_pay1]
  match h with
  | 0 =>
    have e0 : (⟨8 * (0 : Fin 5).val + p.val, by omega⟩ : Fin 40) = ⟨p.val, by omega⟩ := Fin.ext (by simp)
    rw [dif_pos (by simp), e0]
    exact Eq.trans (by congr 2; simp) (row0 q f0 p d)
  | 1 =>
    rw [dif_neg (by simp), dif_pos (by simp)]
    exact Eq.trans (by congr 2; simp) (row1 q f1 p d)
  | 2 =>
    rw [dif_neg (by show ¬ (8 * 2 + p.val < 8); omega), dif_neg (by simp; omega), dif_pos (by simp; omega)]
    have e2 : ∀ hh, (⟨8 * (2 : Fin 5).val + p.val - 8 - 8, hh⟩ : Fin 8) = p := fun _ => Fin.ext (by simp; omega)
    simp only [e2]
    exact row2 q f2 p d
  | 3 =>
    rw [dif_neg (by show ¬ (8 * 3 + p.val < 8); omega), dif_neg (by simp; omega), dif_neg (by simp; omega), dif_pos (by simp; omega)]
    have e3 : ∀ hh, (⟨8 * (3 : Fin 5).val + p.val - 8 - 8 - 8, hh⟩ : Fin 8) = p := fun _ => Fin.ext (by simp; omega)
    simp only [e3]
    exact row3 q f3 p d
  | 4 =>
    rw [dif_neg (by show ¬ (8 * 4 + p.val < 8); omega), dif_neg (by simp; omega), dif_neg (by simp; omega), dif_neg (by simp; omega)]
    have e4 : ∀ hh, (⟨8 * (4 : Fin 5).val + p.val - 8 - 8 - 8 - 8, hh⟩ : Fin 8) = p := fun _ => Fin.ext (by simp; omega)
    simp only [e4]
    exact row4 q f4 p d

/-- The rows the body stores in the readout scratch. -/
theorem readRows_apply (q : Vec Ideal S40x128 .f32) (f0 f1 f2 f3 f4 : Vec Ideal S4000x128 .f32) (h : Fin 5) (p : Fin 8) (d : Fin 128) :
    readRows q f0 f1 f2 f3 f4 (ix2 ⟨8 * h.val + p.val, by omega⟩ d) = crow q (chunk f0 f1 f2 f3 f4 h) ⟨8 * h.val + p.val, by omega⟩ p d := by
  rw [← pay1_apply]
  pointwise [readRows, k0_pay2]

/-- The rows the body stores in its result's block: query, readout, global features. -/
theorem outRows_apply (q g : Vec Ideal S40x128 .f32) (f0 f1 f2 f3 f4 : Vec Ideal S4000x128 .f32) (r : Fin 40) (d : Fin 384) :
    outRows q f0 f1 f2 f3 f4 g (ix2 r d)
      = if h : d.val < 128 then q (ix2 r ⟨d.val, h⟩)
        else if h' : d.val - 128 < 128 then readRows q f0 f1 f2 f3 f4 (ix2 r ⟨d.val - 128, h'⟩)
        else g (ix2 r ⟨d.val - 128 - 128, by omega⟩) := by
  pointwise [outRows, k0_pay3, readRows, k0_pay2]

end Cert.KernelIdeal.Hand

end
-- ==== Proof.Arrays.lean ====
/-
  The specification over the programs' arrays: the features and the weights read off the arguments, and the result array.
-/
module

public import proofs.«01_k».proof.Proof.Spec
public import Idealize.ShloMosaic.Lib.Pointwise

@[expose] public section

noncomputable section

namespace Cert.S2S

open Idealize.ShloMosaic

/-- An array of extended reals with `a` rows and `b` columns, and one with `a` elements. -/
abbrev Arr2 (a b : ℕ) := (⟨2, ![a, b]⟩ : Shape).Idx → EReal
abbrev Arr1 (a : ℕ) := (⟨1, ![a]⟩ : Shape).Idx → EReal

/-- The features by atom and column. -/
def feats (X : Arr2 100000 128) : Fin 100000 → Fin 128 → EReal := fun a d => X (ix2 a d)

/-- The weights and biases by gate and column. -/
def weights (x3 : Arr2 512 256) (x4 : Arr2 512 128) (x5 x6 : Arr1 512) : Weights :=
  ⟨fun g k => x3 (ix2 g k), fun g k => x4 (ix2 g k), fun g => x5 (ix1 g), fun g => x6 (ix1 g)⟩

/-- Row `b`, column `d` of the result: the query, the readout and the global features of graph `b` side by side. -/
def result (s : State) (gf : Mat) (b : Fin 200) (d : Fin 384) : EReal :=
  if h : d.val < 128 then s.q b ⟨d.val, h⟩
  else if h' : d.val - 128 < 128 then s.r b ⟨d.val - 128, h'⟩
  else gf b ⟨d.val - 128 - 128, by omega⟩

/-- The result array. -/
def whole (x0 : Arr2 100000 128) (x2 : Arr2 200 128) (x3 : Arr2 512 256) (x4 : Arr2 512 128) (x5 x6 : Arr1 512) : Arr2 200 384 :=
  fun y => result (state (feats x0) (weights x3 x4 x5 x6) 3) (fun b d => x2 (ix2 b d)) (y 0) (y 1)

end Cert.S2S

end
-- ==== Proof.KernelIdeal.States.lean ====
/-
  The kernel's recurrent scratch between grid points as states of the specification: the five blocks of an iteration
  replace the readout of forty graphs each.
-/
module

public import proofs.«01_k».proof.Proof.KernelIdeal.Attend
public import proofs.«01_k».proof.Proof.KernelIdeal.Run
public import proofs.«01_k».proof.Proof.Arrays

@[expose] public section

set_option maxRecDepth 16384

noncomputable section

namespace Cert.KernelIdeal.Hand

open Cert.KernelIdeal Cert.KernelIdeal.Gen
open Idealize.ShloMosaic
open Cert.S2S

theorem ptc_one (n : ℕ) : ((ptc n) 1).val = n % 5 := by
  unfold ptc
  rw [coords_one]
  show n % 15 % 5 = n % 5
  omega

theorem coord_lt (i : grid0.Coords) : (i 1).val < 5 := (i 1).isLt

/-- Row `r` of the block at column-of-blocks `i`. -/
abbrev brow (i : grid0.Coords) (r : Fin 40) : Fin 200 := ⟨40 * (i 1).val + r.val, by have := coord_lt i; omega⟩

theorem qrows_apply (i : grid0.Coords) (q : Vec Ideal S200x128 .f32) (r : Fin 40) (d : Fin 128) :
    qrows i q (ix2 r d) = q (ix2 (brow i r) d) := by
  refine View.ld_unit_apply_of (Val := Elt Ideal) q _ _ _ (ix2 r d) _ fun a => ?_
  match a with
  | ⟨0, _⟩ => exact (congrArg (· + r.val) (congrFun (k0_off5_eq i) 0)).symm
  | ⟨1, _⟩ => exact ((congrArg (· + d.val) (congrFun (k0_off5_eq i) 1)).trans (Nat.zero_add _)).symm

theorem fsub_apply (X : Vec Ideal S100000x128 .f32) (i : grid0.Coords) (n : Fin 5) (x : Fin 4000) (d : Fin 128) :
    fsub X i n (ix2 x d) = feats X ⟨20000 * (i 1).val + 4000 * n.val + x.val, by have := coord_lt i; omega⟩ d := by
  refine View.ld_unit_apply_of (Val := Elt Ideal) X _ _ _ (ix2 x d) (ix2 _ _) fun a => ?_
  match a with
  | ⟨0, _⟩ => exact (congrArg (· + x.val) (congrFun (k0_off6_eq i n) 0)).symm
  | ⟨1, _⟩ => exact ((congrArg (· + d.val) (congrFun (k0_off6_eq i n) 1)).trans (Nat.zero_add _)).symm

/-- The readout rows of a block are the specification's. -/
theorem readRows_eq (X : Vec Ideal S100000x128 .f32) (i : grid0.Coords) (q : Vec Ideal S200x128 .f32) (r : Fin 40) (d : Fin 128) :
    readRows (qrows i q) (fsub X i 0) (fsub X i 1) (fsub X i 2) (fsub X i 3) (fsub X i 4) (ix2 r d)
      = readout (feats X) (fun b d => q (ix2 b d)) (brow i r) d := by
  obtain ⟨h, p, hr⟩ : ∃ (h : Fin 5) (p : Fin 8), r = ⟨8 * h.val + p.val, by omega⟩ :=
    ⟨⟨r.val / 8, by omega⟩, ⟨r.val % 8, by omega⟩, Fin.ext (by show r.val = 8 * (r.val / 8) + r.val % 8; omega)⟩
  subst hr
  rw [readRows_apply]
  have hc : chunk (fsub X i 0) (fsub X i 1) (fsub X i 2) (fsub X i 3) (fsub X i 4) h = fsub X i h := by
    fin_cases h <;> rfl
  rw [hc]
  have ha : ∀ (k : Fin 500) (d : Fin 128), fsub X i h (ix2 (lane p k) d) = feats X (atom (brow i ⟨8 * h.val + p.val, by omega⟩) k) d := fun k d => by
    rw [fsub_apply]
    refine congrArg (fun z => feats X z d) (Fin.ext ?_)
    show 20000 * (i 1).val + 4000 * h.val + (500 * p.val + k.val) = 500 * (40 * (i 1).val + (8 * h.val + p.val)) + k.val
    omega
  have hs : (fun k => lsc (qrows i q) (fsub X i h) ⟨8 * h.val + p.val, by omega⟩ (lane p k))
      = score (feats X) (fun b d => q (ix2 b d)) (brow i ⟨8 * h.val + p.val, by omega⟩) := by
    funext k
    unfold lsc score
    exact Finset.sum_congr rfl fun j _ => by rw [ha, qrows_apply]
  unfold crow readout
  rw [hs]
  exact congrArg (· * _) (Finset.sum_congr rfl fun k _ => by rw [ha])

/-- The attention of a grid point, in the specification's terms. -/
theorem rd_attend (X : Vec Ideal S100000x128 .f32) (i : grid0.Coords) (s : St Ideal) :
    rd (s.attend X i) = ⟨(rd s).q, fun b d => if b.val / 40 = (i 1).val then readout (feats X) (rd s).q b d else (rd s).r b d, (rd s).h, (rd s).c⟩ := by
  refine S2S.State.ext rfl ?_ rfl rfl
  funext b d
  show VecWindow.put (s := S200x128) s.r (k0_off5 i) S40x128.size
    (readRows (qrows i s.q) (fsub X i 0) (fsub X i 1) (fsub X i 2) (fsub X i 3) (fsub X i 4)) (ix2 b d) = if b.val / 40 = (i 1).val then _ else _
  have hi := coord_lt i
  by_cases h : b.val / 40 = (i 1).val
  · rw [if_pos h]
    have hb : b = brow i ⟨b.val % 40, by omega⟩ := Fin.ext (by show b.val = 40 * (i 1).val + b.val % 40; omega)
    have hw : ∀ a, k0_off5 i a ≤ ((ix2 b d : S200x128.Idx) a).val ∧ ((ix2 b d : S200x128.Idx) a).val < k0_off5 i a + S40x128.size a := by
      intro a
      rw [k0_off5_eq]
      match a with
      | ⟨0, _⟩ => show 40 * (i 1).val ≤ b.val ∧ b.val < 40 * (i 1).val + 40; omega
      | ⟨1, _⟩ => show 0 ≤ d.val ∧ d.val < 0 + 128; omega
    refine Eq.trans (dif_pos hw) ?_
    refine Eq.trans ?_ ((readRows_eq X i s.q ⟨b.val % 40, by omega⟩ d).trans (by rw [← hb]; rfl))
    refine congrArg _ (funext fun a => Fin.ext ?_)
    show ((ix2 b d : S200x128.Idx) a).val - k0_off5 i a = _
    rw [k0_off5_eq]
    match a with
    | ⟨0, _⟩ => show b.val - 40 * (i 1).val = b.val % 40; omega
    | ⟨1, _⟩ => rfl
  · rw [if_neg h]
    refine dif_neg fun hw => h ?_
    have h0 := hw 0
    rw [k0_off5_eq] at h0
    have h0' : 40 * (i 1).val ≤ b.val ∧ b.val < 40 * (i 1).val + 40 := h0
    omega

section Induction
variable {W : Weights} {X : Vec Ideal S100000x128 .f32} {w : Vec Ideal S384x512 .f32} {b : Vec Ideal S1x512 .f32} (H : Holds W w b)

/-- What a point's attention finds, `j` blocks into iteration `i`. -/
theorem rd_mid (H : Holds W w b) (i : ℕ) (hi : rd (stOf X w b (5 * i)) = state (feats X) W i) :
    ∀ j : ℕ, j < 5 → rd (midOf w b (5 * i + j) (stOf X w b (5 * i + j)))
      = ⟨hNew W (state (feats X) W i), fun b d => if b.val / 40 < j then readout (feats X) (hNew W (state (feats X) W i)) b d else (state (feats X) W i).r b d,
          hNew W (state (feats X) W i), cNew W (state (feats X) W i)⟩
  | 0, _ => by
    rw [Nat.add_zero]
    unfold midOf
    rw [if_pos (by omega), rd_lstm H, hi]
    rfl
  | j + 1, hj => by
    have ih := rd_mid H i hi j (by omega)
    rw [show 5 * i + (j + 1) = (5 * i + j) + 1 from rfl]
    unfold midOf
    rw [if_neg (by omega)]
    show rd ((midOf w b (5 * i + j) (stOf X w b (5 * i + j))).attend X (ptc (5 * i + j))) = _
    rw [rd_attend, ih, ptc_one, show (5 * i + j) % 5 = j by omega]
    refine S2S.State.ext rfl ?_ rfl rfl
    funext b d
    show (if b.val / 40 = j then _ else if b.val / 40 < j then _ else _) = if b.val / 40 < j + 1 then _ else _
    by_cases h1 : b.val / 40 = j
    · rw [if_pos h1, if_pos (by omega)]
    · rw [if_neg h1]
      by_cases h2 : b.val / 40 < j
      · rw [if_pos h2, if_pos (by omega)]
      · rw [if_neg h2, if_neg (by omega)]

/-- The scratch after `i` iterations holds the specification's state. -/
theorem rd_state (H : Holds W w b) : ∀ i : ℕ, rd (stOf X w b (5 * i)) = state (feats X) W i
  | 0 => rd_zero
  | i + 1 => by
    have h := rd_mid H i (rd_state H i) 4 (by omega)
    rw [show 5 * (i + 1) = (5 * i + 4) + 1 by omega]
    show rd ((midOf w b (5 * i + 4) (stOf X w b (5 * i + 4))).attend X (ptc (5 * i + 4))) = _
    rw [rd_attend, h, ptc_one, show (5 * i + 4) % 5 = 4 by omega]
    refine S2S.State.ext rfl ?_ rfl rfl
    funext b d
    show (if b.val / 40 = 4 then _ else if b.val / 40 < 4 then _ else _) = _
    have hb := b.isLt
    by_cases h1 : b.val / 40 = 4
    · rw [if_pos h1]; rfl
    · rw [if_neg h1, if_pos (by omega)]; rfl

end Induction

/-- The block a point of the last iteration leaves in the output window. -/
theorem outAt_last {W : Weights} {X : Vec Ideal S100000x128 .f32} {w : Vec Ideal S384x512 .f32} {b : Vec Ideal S1x512 .f32} (H : Holds W w b)
    (gf : Mat) (t : Fin grid0.N) (ht : 10 ≤ t.val) (g : Vec Ideal S40x128 .f32) (hg : ∀ r d, g (ix2 r d) = gf (brow (grid0.coords t) r) d) (r : Fin 40) (d : Fin 384) :
    outAt X (grid0.coords t) (midOf w b t.val (stOf X w b t.val)) g (ix2 r d) = result (state (feats X) W 3) gf (brow (grid0.coords t) r) d := by
  have ht' : t.val < 15 := lt_of_lt_of_eq t.isLt N_0
  have hm := rd_mid (X := X) H 2 (rd_state H 2) (t.val - 10) (by omega)
  rw [show 5 * 2 + (t.val - 10) = t.val by omega] at hm
  have hq : (fun b' d => (midOf w b t.val (stOf X w b t.val)).q (ix2 b' d)) = hNew W (state (feats X) W 2) := congrArg S2S.State.q hm
  unfold outAt result
  rw [outRows_apply]
  by_cases h1 : d.val < 128
  · rw [dif_pos h1, dif_pos h1, qrows_apply]
    exact congrFun (congrFun hq _) _
  · rw [dif_neg h1, dif_neg h1]
    by_cases h2 : d.val - 128 < 128
    · rw [dif_pos h2, dif_pos h2, readRows_eq, hq]; rfl
    · rw [dif_neg h2, dif_neg h2, hg]

end Cert.KernelIdeal.Hand

end
-- ==== Proof.KernelIdeal.Result.lean ====
/-
  What the kernel's run leaves in its result buffer: every block is written in all three iterations and keeps what the
  last wrote.
-/
module

public import proofs.«01_k».proof.Proof.KernelIdeal.States

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window BodyObligation cellOf)
open Cert.S2S

section Last

variable {nD : Nat} {τ : Topo} {sg : RefSig} {Val : EltTy → Type}
variable {Ix : Type} [DecidableEq Ix] {Name : Type} [DecidableEq Name] {U : Type} [URA U] {Lvl : Type}
variable {Λ₀ : Idealize.SL.Sem.Labels} {cfg : Cfg sg Λ₀} {c : Dev nD} (dat : Dat τ Val Ix Name U Lvl cfg c)

/-- An element that some point from `k` on writes back holds what those points write, when from `k` on each writes its
    block of one array `G`; earlier points may write anything. -/
theorem arrAt_of_last (w : Fin cfg.W) (G : Buf Val ((cfg.win w).arr.view.loc (c.tc : Thread nD τ))) (k : ℕ)
    (hG : ∀ t : Fin cfg.N, k ≤ t.val → dat.flushed w t = ((cfg.win w).blk t).view.read Val G) (n : ℕ) (t : Fin cfg.N)
    (i : ((cfg.win w).arr.view.loc (c.tc : Thread nD τ)).2.ty.Idx) (hk : k ≤ t.val) (htn : t.val < n)
    (hf : (cfg.win w).flush t = true) (hi : i ∈ ((cfg.win w).blk t).view.set) : dat.arrAt w n i = G i := by
  induction n with
  | zero => exact absurd htn (Nat.not_lt_zero _)
  | succ n ih =>
    rw [dat.arrAt_succ_apply]
    have keep : t.val ≠ n → dat.arrAt w n i = G i := fun e => ih (by omega)
    split
    · next hn =>
      split
      · next hfn =>
        by_cases hin : i ∈ ((cfg.win w).blk ⟨n, hn⟩).view.setOn Finset.univ
        · rw [hG ⟨n, hn⟩ (by show k ≤ n; omega), View.write_read_eq_piecewise, Finset.piecewise_eq_of_mem _ _ _ hin]
        · rw [View.write_of_not_mem _ _ _ hin]
          exact keep fun e => hin (by rw [View.setOn_univ]; have : t = ⟨n, hn⟩ := Fin.ext e; exact this ▸ hi)
      · next hfn => exact keep fun e => hfn (by have : t = ⟨n, hn⟩ := Fin.ext e; exact this ▸ hf)
    · next hn => exact keep fun e => hn (e ▸ t.isLt)

end Last

variable (m : (ℓ : Loc nD τ sig) → Buf (Elt Ideal) ℓ) (ρ : Dev nD → PrngReg)

/-- The argument buffers of core `c` at launch. -/
abbrev arg (c : Dev nD) (b : Ref sig .tc) : Buf (Elt Ideal) ((c : Thread nD τ).loc b) := m ((c : Thread nD τ).loc b)

abbrev weightsOf (c : Dev nD) : Weights := weights (arg m c main_arg3) (arg m c main_arg4) (arg m c main_arg5) (arg m c main_arg6)

theorem holds (c : Dev nD) : Holds (weightsOf m c) (wOf m c) (bOf m c) where
  lo k g := by
    show V m c main_v2 _ = _
    entry_read
    pointwise
    rfl
  hi k g := by
    show V m c main_v2 _ = _
    entry_read
    pointwise
    rfl
  bias g := by
    show V m c main_v4 _ = _
    entry_read
    pointwise
    rfl

/-- The kernel's result. -/
abbrev resultOf (c : Dev nD) : Arr2 200 384 :=
  whole (arg m c main_arg0) (arg m c main_arg2) (arg m c main_arg3) (arg m c main_arg4) (arg m c main_arg5) (arg m c main_arg6)

theorem index_0 : ∀ t : Fin grid0.N, win0_0.index t 0 = ((grid0.coords t) 1).val ∧ win0_0.index t 1 = 0 := by decide
theorem index_3 : ∀ t : Fin grid0.N, win0_3.index t 0 = ((grid0.coords t) 1).val ∧ win0_3.index t 1 = 0 := by decide

theorem iblk_0 (c : Dev nD) (t : Fin cfg0.N) (r : Fin 40) (d : Fin 128) :
    (iblk m c 0 t : Vec Ideal S40x128 .f32) (ix2 r d) = arg m c main_arg2 (ix2 (brow (grid0.coords t) r) d) := by
  show V m c main_arg2 _ = _
  rw [V_main_arg2]
  refine congrArg _ (funext fun a => Fin.ext ?_)
  refine (Pipeline.Window.rect_emb_val win0_0 t (ix2 r d) a).trans ?_
  match a with
  | ⟨0, _⟩ =>
    show win0_0.index t 0 * 40 + r.val = 40 * ((grid0.coords t) 1).val + r.val
    rw [(index_0 t).1, Nat.mul_comm]
  | ⟨1, _⟩ =>
    show win0_0.index t 1 * 128 + d.val = d.val
    rw [(index_0 t).2, Nat.zero_mul, Nat.zero_add]

theorem flushed_last (c : Dev nD) (t : Fin cfg0.N) (ht : 10 ≤ t.val) :
    (dats m 0 c).flushed 3 t = ((cfg0.win 3).blk t).view.read (Elt Ideal) (resultOf m c) := by
  funext y
  rw [Dat.flushed_apply]
  show (dats m 0 c).after 3 t _ = resultOf m c _
  rw [after0_3]
  have hlt := coord_lt (grid0.coords t)
  obtain ⟨r, d, hy⟩ : ∃ (r : Fin 40) (d : Fin 384), (cfg0.win 3).xinj (cfg0.grid.coords t) y = (ix2 r d : S40x384.Idx) := ⟨_, _, eq_ix2 _⟩
  have hr : ((y 0 : Fin _) : ℕ) = r.val := congrArg (fun z : S40x384.Idx => (z 0).val) hy
  have hd : ((y 1 : Fin _) : ℕ) = d.val := congrArg (fun z : S40x384.Idx => (z 1).val) hy
  have he : (((cfg0.win 3).blk t).view.emb y : S200x384.Idx) = ix2 (brow (grid0.coords t) r) d := by
    funext a
    refine Fin.ext ((Pipeline.Window.rect_emb_val win0_3 t y a).trans ?_)
    match a with
    | ⟨0, _⟩ =>
      show win0_3.index t 0 * 40 + ((y 0 : Fin _) : ℕ) = 40 * ((grid0.coords t) 1).val + r.val
      rw [(index_3 t).1, Nat.mul_comm, hr]
    | ⟨1, _⟩ =>
      show win0_3.index t 1 * 384 + ((y 1 : Fin _) : ℕ) = d.val
      rw [(index_3 t).2, Nat.zero_mul, Nat.zero_add, hd]
  rw [he, hy]
  have hX : feats (landedF c (ffOf m c)) = feats (arg m c main_arg0) := by
    funext a d
    show V m c main_arg0 _ = _
    rw [V_main_arg0]; rfl
  refine (outAt_last (holds m c) (fun b d => arg m c main_arg2 (ix2 b d)) t ht (iblk m c 0 t) (iblk_0 m c t) r d).trans ?_
  rw [hX]
  rfl

theorem arr_eq (c : Dev nD) : (dats m 0 c).arrAt 3 cfg0.N = resultOf m c := by
  funext y
  obtain ⟨b, d, hy⟩ : ∃ (b : Fin 200) (d : Fin 384), (y : S200x384.Idx) = ix2 b d := ⟨_, _, eq_ix2 _⟩
  have hb := b.isLt
  have hN : cfg0.N = 15 := N_0
  let t : Fin cfg0.N := ⟨10 + b.val / 40, by omega⟩
  have ht : ((grid0.coords t) 1).val = b.val / 40 := by
    rw [coords_one]
    show (10 + b.val / 40) % 5 = b.val / 40
    omega
  refine arrAt_of_last (dats m 0 c) 3 (resultOf m c) 10 (flushed_last m c) cfg0.N t y (by show 10 ≤ 10 + b.val / 40; omega) t.isLt (flush0_3 t) ?_
  have he : (((cfg0.win 3).blk t).view.emb (ix2 (⟨b.val % 40, by omega⟩ : Fin 40) d : S40x384.Idx) : S200x384.Idx) = ix2 b d := by
    funext a
    refine Fin.ext ((Pipeline.Window.rect_emb_val win0_3 t (ix2 (⟨b.val % 40, by omega⟩ : Fin 40) d : S40x384.Idx) a).trans ?_)
    match a with
    | ⟨0, _⟩ =>
      show win0_3.index t 0 * 40 + b.val % 40 = b.val
      rw [(index_3 t).1, ht]
      omega
    | ⟨1, _⟩ =>
      show win0_3.index t 1 * 384 + d.val = d.val
      rw [(index_3 t).2, Nat.zero_mul, Nat.zero_add]
  rw [hy, ← he]
  exact View.emb_mem_set _ _

/-- The kernel's run with its result and the arguments kept. -/
theorem run_value : θ_run defs (onTc (τ := τ) (main (F := Ideal))) ⟨m, fun _ => 0, ρ⟩ (fun r => ∀ c : Dev nD,
    r.2.mem ((c.tc : Thread nD τ).loc main_v5) = resultOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c => ⟨((h.1 c).1 3).trans (arr_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 0).trans (((dats m 0 c).arrAt_in 0 rfl _).trans ((A_eq m c 0).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩) (run_main m ρ)

end Cert.KernelIdeal.Hand

end
-- ==== Proof.ReferenceIdeal.Ops.lean ====
/-
  The reference's gathers and scatters by the graph number of an atom, read at an element, where atom `n` belongs to
  graph `n / 500`.
-/
module

public import proofs.«01_k».proof.Proof.Arrays
public import proofs.«01_k».proof.ReferenceIdeal
public import Idealize.ShloMosaic.Lib.Routing.OpsPair
public import Idealize.ShloMosaic.Lib.Routing.OpsSet
public import Idealize.ShloMosaic.Lib.Routing.OpsOne

@[expose] public section

set_option maxRecDepth 16384

noncomputable section

namespace Cert.ReferenceIdeal.Hand

open Idealize.ShloMosaic
open Idealize.ShloMosaic.Routing (shape1 shape2)
open scoped BigOperators

/-- The two spellings of an index by its coordinates. -/
theorem ix1_eq {n : ℕ} (a : Fin n) : (ix1 a : (shape1 n).Idx) = ValueIdx.ix1 a := funext fun i => match i with | ⟨0, _⟩ => rfl
theorem ix2_eq {n k : ℕ} (a : Fin n) (b : Fin k) : (ix2 a b : (shape2 n k).Idx) = ValueIdx.ix2 a b :=
  funext fun i => match i with | ⟨0, _⟩ => rfl | ⟨1, _⟩ => rfl

section Lands
variable {M N C : ℕ}

/-- Where an update of a scatter of `N` scalars into a vector lands. -/
theorem lands_vec (d : ScatterDims (shape1 M) (shape2 N 1) (shape1 N)) (hiw : d.insertedWindowDims = [0])
    (hsd : d.scatterDimsToOperandDims = [0]) (hivd : d.indexVectorDim = 1) (idx : IVec (shape2 N 1) 32) (i : Fin N) (x : Fin M) :
    d.resultIdx? (ix1 i) idx = some (ix1 x) ↔ (idx (ix2 i (0 : Fin 1))).toInt = (x.val : ℤ) := by
  have hm : (0 : Fin 1) ∈ d.scatterDimsToOperandDims := by rw [hsd]; exact List.mem_singleton.2 rfl
  have hwin : d.window (ix1 i) 0 = 0 := dif_neg fun h => (of_decide_eq_true (List.mem_filter.1 h).2) (by rw [hiw]; exact List.mem_singleton.2 rfl)
  have hsi : d.siIdx (ix1 i) ⟨d.scatterDimsToOperandDims.idxOf 0, List.idxOf_lt_length_iff.2 hm⟩ = ix2 i (0 : Fin 1) := by
    refine funext fun q => Fin.ext ?_
    unfold ScatterDims.siIdx
    match q with
    | ⟨0, _⟩ =>
      rw [dif_neg (by rw [hivd]; exact Nat.zero_ne_one)]
      unfold ScatterDims.siCoord
      have e : ∀ X : Fin 1, ((ix1 i : (shape1 N).Idx) X).val = i.val := fun X => by
        obtain rfl : X = 0 := Subsingleton.elim _ _
        rfl
      exact e _
    | ⟨1, _⟩ =>
      rw [dif_pos (by rw [hivd])]
      show List.idxOf (0 : Fin 1) d.scatterDimsToOperandDims = 0
      rw [hsd]; rfl
  have hstart : d.start (ix1 i) idx 0 = (idx (ix2 i (0 : Fin 1))).toInt := (dif_pos hm).trans (by rw [hsi])
  rw [ix1_eq x, Routing.resultIdx?_ix1, hstart, hwin]
  simp

/-- Where an update of a scatter of `N` rows into a matrix lands. -/
theorem lands_row (d : ScatterDims (shape2 M C) (shape2 N 1) (shape2 N C)) (huw : d.updateWindowDims = [1]) (hiw : d.insertedWindowDims = [0])
    (hsd : d.scatterDimsToOperandDims = [0]) (hivd : d.indexVectorDim = 1) (idx : IVec (shape2 N 1) 32) (i : Fin N) (e : Fin C) (x : Fin M) (y : Fin C) :
    d.resultIdx? (ix2 i e) idx = some (ix2 x y) ↔ (idx (ix2 i (0 : Fin 1))).toInt = (x.val : ℤ) ∧ e = y := by
  obtain ⟨uw, iw, sd, iv, wf⟩ := d
  dsimp only at huw hiw hsd hivd
  subst huw hiw hsd hivd
  generalize hd : (⟨[1], [0], [0], 1, wf⟩ : ScatterDims (shape2 M C) (shape2 N 1) (shape2 N C)) = d
  have hm : (0 : Fin 2) ∈ d.scatterDimsToOperandDims := by rw [← hd]; exact List.mem_singleton.2 rfl
  have hm1 : (1 : Fin 2) ∉ d.scatterDimsToOperandDims := by rw [← hd]; exact (by decide : (1 : Fin 2) ∉ ([0] : List (Fin 2)))
  have hwin0 : d.window (ix2 i e) 0 = 0 := by rw [← hd]; rfl
  have hwin1 : d.window (ix2 i e) 1 = e.val := by rw [← hd]; rfl
  have hsi : d.siIdx (ix2 i e) ⟨d.scatterDimsToOperandDims.idxOf 0, List.idxOf_lt_length_iff.2 hm⟩ = ix2 i (0 : Fin 1) := by
    subst hd
    refine funext fun q => Fin.ext ?_
    match q with
    | ⟨0, _⟩ => rfl
    | ⟨1, _⟩ => rfl
  have hstart0 : d.start (ix2 i e) idx 0 = (idx (ix2 i (0 : Fin 1))).toInt := (dif_pos hm).trans (by rw [hsi])
  have hstart1 : d.start (ix2 i e) idx 1 = 0 := dif_neg hm1
  rw [ix2_eq x y, Routing.resultIdx?_ix2, hstart0, hstart1, hwin0, hwin1]
  rw [Fin.ext_iff]
  simp

end Lands

theorem word_toInt {k : ℕ} (h : k < 2 ^ 31) : (BitVec.ofNat 32 k).toInt = (k : ℤ) := StableHlo.Predicate.toInt_ofNat_small _ h

/-- An index array that holds at atom `n` the number of its graph. -/
def Groups (idx : IVec S100000x1 32) : Prop := ∀ n : Fin 100000, idx (ix2 n (0 : Fin 1)) = BitVec.ofNat 32 (n.val / 500)

theorem group_toInt {idx : IVec S100000x1 32} (h : Groups idx) (n : Fin 100000) : (idx (ix2 n (0 : Fin 1))).toInt = ((n.val / 500 : ℕ) : ℤ) := by
  rw [h n, word_toInt (by omega)]

variable [Facts₀]

/-- A segment sum of scalars. -/
theorem scatterAdd_vec {idx : IVec S100000x1 32} (h : Groups idx) (x : FVec Ideal S200 .f32) (upd : FVec Ideal S100000 .f32) (b : Fin 200) :
    Host.scatterAdd scatter_S200_S100000x1_S100000_n_0_0_1 x idx upd (ix1 b)
      = x (ix1 b) + ∑ n ∈ Finset.univ.filter (fun n : Fin 100000 => n.val / 500 = b.val), upd (ix1 n) := by
  show x (ix1 b) + ∑ j ∈ Finset.univ.filter (fun j : S100000.Idx => scatter_S200_S100000x1_S100000_n_0_0_1.resultIdx? j idx = some (ix1 b)), upd j = _
  refine congrArg (x (ix1 b) + ·) ?_
  rw [Finset.sum_filter, Finset.sum_filter, sum_idx1]
  refine Finset.sum_congr rfl fun n _ => ?_
  have := lands_vec scatter_S200_S100000x1_S100000_n_0_0_1 rfl rfl rfl idx n b
  rw [group_toInt h] at this
  refine if_congr (this.trans ?_) rfl rfl
  omega

/-- A segment sum of rows. -/
theorem scatterAdd_row {idx : IVec S100000x1 32} (h : Groups idx) (x : FVec Ideal S200x128 .f32) (upd : FVec Ideal S100000x128 .f32) (b : Fin 200) (e : Fin 128) :
    Host.scatterAdd scatter_S200x128_S100000x1_S100000x128_1_0_0_1 x idx upd (ix2 b e)
      = x (ix2 b e) + ∑ n ∈ Finset.univ.filter (fun n : Fin 100000 => n.val / 500 = b.val), upd (ix2 n e) := by
  show x (ix2 b e) + ∑ j ∈ Finset.univ.filter (fun j : S100000x128.Idx => scatter_S200x128_S100000x1_S100000x128_1_0_0_1.resultIdx? j idx = some (ix2 b e)), upd j = _
  refine congrArg (x (ix2 b e) + ·) ?_
  rw [Finset.sum_filter, Finset.sum_filter, sum_idx2]
  refine Finset.sum_congr rfl fun n _ => ?_
  have key : ∀ e' : Fin 128, scatter_S200x128_S100000x1_S100000x128_1_0_0_1.resultIdx? (ix2 n e') idx = some (ix2 b e) ↔ n.val / 500 = b.val ∧ e' = e := fun e' => by
    have := lands_row scatter_S200x128_S100000x1_S100000x128_1_0_0_1 rfl rfl rfl rfl idx n e' b e
    rw [group_toInt h] at this
    refine this.trans (and_congr_left' ?_)
    omega
  rw [Finset.sum_congr rfl fun e' _ => if_congr (key e') rfl rfl]
  by_cases hb : n.val / 500 = b.val
  · simp only [hb, true_and, if_true]
    rw [Finset.sum_ite_eq']
    exact if_pos (Finset.mem_univ e)
  · simp only [hb, false_and, if_false, Finset.sum_const_zero]

/-- A table of graphs read at each atom's graph. -/
theorem gather_vec {α : Type} {idx : IVec S100000x1 32} (h : Groups idx) (x : S200.Idx → α) (n : Fin 100000) :
    Host.gather gather_S200_S100000x1_S100000_n_0_n_n_0_1_1 x idx (ix1 n) = x (ix1 ⟨n.val / 500, by omega⟩) := by
  rw [ix1_eq n, ix1_eq (⟨n.val / 500, by omega⟩ : Fin 200)]
  exact Routing.gather_take1 _ rfl rfl rfl rfl x idx n ⟨n.val / 500, by omega⟩ (by rw [← ix2_eq]; exact h n) (by decide)

theorem gather_mat {α : Type} {idx : IVec S100000x1 32} (h : Groups idx) (x : S200x128.Idx → α) (n : Fin 100000) (e : Fin 128) :
    Host.gather gather_S200x128_S100000x1_S100000x128_1_0_n_n_0_1_1128 x idx (ix2 n e) = x (ix2 ⟨n.val / 500, by omega⟩ e) := by
  rw [ix2_eq n e, ix2_eq (⟨n.val / 500, by omega⟩ : Fin 200) e]
  exact Routing.gather_row _ rfl rfl rfl rfl rfl x idx n e ⟨n.val / 500, by omega⟩ (by rw [← ix2_eq]; exact h n) (by decide)

end Cert.ReferenceIdeal.Hand

end
-- ==== Proof.ReferenceIdeal.Seg.lean ====
/-
Which graph an atom belongs to.

The reference finds the graph of each atom from the sizes of the graphs: it marks the first atom of each graph, adds up the marks from the
first atom on, and takes one away. Where every graph has 500 atoms, atom `n` belongs to graph `n / 500`.
-/
module

public import proofs.«01_k».proof.Proof.ReferenceIdeal.Ops
public import proofs.«01_k».proof.Proof.Gen.ReferenceIdeal.Read

@[expose] public section

noncomputable section

namespace Cert.ReferenceIdeal.Hand

open Idealize.ShloMosaic Cert.S2S Cert.ReferenceIdeal.Read
open Idealize.ShloMosaic.Routing (shape1 shape2)

/-! ## Counting -/

/-- A fold that adds one at each element that has `P`. -/
theorem foldl_marks {ι : Type} (P : ι → Prop) [DecidablePred P] (l : List ι) (z : ℕ) :
    l.foldl (fun a n => if P n then IntOp.addi a 1#32 else a) (BitVec.ofNat 32 z) = BitVec.ofNat 32 (z + l.countP (fun n => decide (P n))) := by
  induction l generalizing z with
  | nil => rfl
  | cons n l ih =>
    rw [List.foldl_cons, List.countP_cons]
    by_cases h : P n
    · rw [if_pos h, show IntOp.addi (BitVec.ofNat 32 z) 1#32 = BitVec.ofNat 32 (z + 1) from (BitVec.ofNat_add z 1).symm, ih]
      simp only [h, decide_true, if_true]
      congr 1
      omega
    · rw [if_neg h, ih]
      simp only [h, decide_false, Bool.false_eq_true, if_false, Nat.add_zero]

/-- One place among the multiples of 500 below `500 * N`, or none. -/
theorem count_multiples (x N : ℕ) : Nat.count (fun i => 500 * i = x) N = if x % 500 = 0 ∧ x / 500 < N then 1 else 0 := by
  induction N with
  | zero => simp
  | succ N ih =>
    rw [Nat.count_succ, ih]
    split_ifs <;> omega

theorem sum_offsets (j : ℕ) : ((List.range (j + 1)).map (fun i => if i = 0 then 0 else 500)).sum = 500 * j := by
  induction j with
  | zero => rfl
  | succ j ih =>
    rw [List.range_succ, List.map_append, List.sum_append, ih]
    simp
    omega

theorem sum_marks (n : ℕ) : ((List.range (n + 1)).map (fun i => if i % 500 = 0 then 1 else 0)).sum = n / 500 + 1 := by
  induction n with
  | zero => rfl
  | succ n ih =>
    rw [List.range_succ, List.map_append, List.sum_append, ih]
    simp only [List.map_cons, List.map_nil, List.sum_cons, List.sum_nil]
    split_ifs <;> omega

/-! ## The steps of the reference -/

variable [Facts₀]

/-- The sizes of the claim: 500 atoms in every graph. -/
def sizes : IVec S200 32 := fun _ => 500#32

theorem v1_at (j : Fin 200) : val_main_v1 (F := Ideal) sizes (ix1 j) = 500#32 := by
  pointwise [val_main_v1, val_main_call0_v0, val_main_call0_v1, sizes]
  exact ite_self _

theorem v3_at (j : Fin 200) : val_main_v3 (F := Ideal) sizes (ix1 j) = BitVec.ofNat 32 (if j.val = 0 then 0 else 500) := by
  have h := Routing.scatter_one scatter_S200_S1_S__n_0_0_0 rfl rfl (val_main_v1 (F := Ideal) sizes) (val_main_v2 (F := Ideal)) (val_main_c_0 (F := Ideal))
    (0 : Fin 200) (by decide) rfl j
  rw [← ix1_eq j, v1_at] at h
  refine h.trans ?_
  by_cases hj : j.val = 0
  · rw [if_pos hj, if_pos (Fin.ext hj)]; rfl
  · rw [if_neg hj, if_neg fun e => hj (congrArg Fin.val e)]

theorem v4_at (j : Fin 200) : val_main_v4 (F := Ideal) sizes (ix1 j) = BitVec.ofNat 32 (500 * j.val) := by
  rw [ix1_eq j]
  refine (Routing.cumsum1 (N := 200) (Nm1 := 199) rfl (val_main_v3 (F := Ideal) sizes) (fun i => if i = 0 then 0 else 500)
    (fun i => by rw [← ix1_eq i]; exact v3_at i) _ rfl _ _ j).trans ?_
  rw [sum_offsets]

theorem v11_at (j : Fin 200) : val_main_v11 (F := Ideal) sizes (ix2 j (0 : Fin 1)) = BitVec.ofNat 32 (500 * j.val) := by
  have e : val_main_v11 (F := Ideal) sizes (ix2 j (0 : Fin 1)) = val_main_v10 (F := Ideal) sizes (ix1 j) := by
    pointwise [val_main_v11]
  rw [e, val_main_v10_apply, val_main_v7_apply, val_main_v6_apply, v4_at]
  have := j.isLt
  exact Routing.wrap_of_lt _ _ (by rw [BitVec.toNat_ofNat]; exact lt_of_le_of_lt (Nat.mod_le _ _) (by omega))

theorem v13_at (x : Fin 100000) : val_main_v13 (F := Ideal) sizes (ix1 x) = BitVec.ofNat 32 (if x.val % 500 = 0 then 1 else 0) := by
  have hland : ∀ n : Fin (shape1 200).numel,
      scatter_S100000_S200x1_S200_n_0_0_1.resultIdx? ((shape1 200).rowMajor.symm n) (val_main_v11 (F := Ideal) sizes) = some (ix1 x) ↔ 500 * n.val = x.val := fun n => by
    rw [Routing.symm1, ← ix1_eq]
    have := lands_vec scatter_S100000_S200x1_S200_n_0_0_1 rfl rfl rfl (val_main_v11 (F := Ideal) sizes) (n.cast (Routing.numel1 200)) x
    rw [v11_at, word_toInt (by have := (n.cast (Routing.numel1 200)).isLt; omega)] at this
    refine this.trans ?_
    show ((500 * n.val : ℕ) : ℤ) = (x.val : ℤ) ↔ _
    omega
  refine (Routing.scatter_at _ IntOp.addi _ _ _ (ix1 x)).trans ?_
  have hf : (fun (a : BitVec 32) (n : Fin (shape1 200).numel) =>
      if scatter_S100000_S200x1_S200_n_0_0_1.resultIdx? ((shape1 200).rowMajor.symm n) (val_main_v11 (F := Ideal) sizes) = some (ix1 x)
        then IntOp.addi a (val_main_v12 (F := Ideal) ((shape1 200).rowMajor.symm n)) else a)
      = fun a n => if 500 * n.val = x.val then IntOp.addi a 1#32 else a :=
    funext fun a => funext fun n => if_congr (hland n) rfl rfl
  refine (congrFun (congrFun (congrArg List.foldl hf) (BitVec.ofNat 32 0)) _).trans ?_
  refine (foldl_marks (fun n : Fin (shape1 200).numel => 500 * n.val = x.val) _ 0).trans ?_
  rw [Nat.zero_add, Routing.countP_finRange _ (fun i => 500 * i = x.val), Routing.numel1, count_multiples]
  refine congrArg (BitVec.ofNat 32) (if_congr ?_ rfl rfl)
  have := x.isLt
  omega

theorem v14_at (n : Fin 100000) : val_main_v14 (F := Ideal) sizes (ix1 n) = BitVec.ofNat 32 (n.val / 500 + 1) := by
  rw [ix1_eq n]
  refine (Routing.cumsum1 (N := 100000) (Nm1 := 99999) rfl (val_main_v13 (F := Ideal) sizes) (fun i => if i % 500 = 0 then 1 else 0)
    (fun i => by rw [← ix1_eq i]; exact v13_at i) _ rfl _ _ n).trans ?_
  rw [sum_marks]

theorem v16_at (n : Fin 100000) : val_main_v16 (F := Ideal) sizes (ix1 n) = BitVec.ofNat 32 (n.val / 500) := by
  rw [val_main_v16_apply, v14_at]
  show BitVec.ofNat 32 (n.val / 500 + 1) - 1#32 = _
  refine BitVec.eq_of_toNat_eq ?_
  have := n.isLt
  rw [BitVec.toNat_sub, BitVec.toNat_ofNat, BitVec.toNat_ofNat, BitVec.toNat_ofNat]
  omega

theorem call3_v5_at (n : Fin 100000) : val_main_call3_v5 (F := Ideal) sizes (ix2 n (0 : Fin 1)) = BitVec.ofNat 32 (n.val / 500) := by
  have e : val_main_call3_v5 (F := Ideal) sizes (ix2 n (0 : Fin 1)) = val_main_call3_v4 (F := Ideal) sizes (ix1 n) := by
    pointwise [val_main_call3_v5]
  rw [e, val_main_call3_v4_apply, val_main_call3_v1_apply, val_main_call3_v0_apply, v16_at]
  exact Routing.wrap_of_lt _ _ (by rw [BitVec.toNat_ofNat]; exact lt_of_le_of_lt (Nat.mod_le _ _) (by omega))

theorem in_range (k : Fin 200) : IntOp.andi (IntOp.cmpi .sge (BitVec.ofNat 32 k.val) 0#32) (IntOp.cmpi .sle (BitVec.ofNat 32 k.val) 199#32) = 1#1 := by
  revert k
  decide

theorem call3_v11_at (i : S100000x1.Idx) : val_main_call3_v11 (F := Ideal) sizes i = 1#1 := by
  obtain ⟨n, z, rfl⟩ : ∃ (n : Fin 100000) (z : Fin 1), i = ix2 n z := ⟨i 0, i 1, eq_ix2 i⟩
  obtain rfl : z = 0 := Subsingleton.elim _ _
  rw [val_main_call3_v11_apply, val_main_call3_v7_apply, val_main_call3_v10_apply, call3_v5_at]
  exact in_range ⟨n.val / 500, by omega⟩

theorem foldl_and {ι : Type} (f : ι → BitVec 1) (hf : ∀ i, f i = 1#1) (l : List ι) : l.foldl (fun a n => IntOp.andi a (f n)) 1#1 = 1#1 := by
  induction l with
  | nil => rfl
  | cons n l ih =>
    rw [List.foldl_cons, hf]
    exact ih

theorem call3_v12_at (i : S100000.Idx) : val_main_call3_v12 (F := Ideal) sizes i = 1#1 := by
  unfold val_main_call3_v12 Host.reduce
  exact foldl_and _ (fun _ => call3_v11_at _) _

/-- The graph of each atom. -/
theorem graph_at (n : Fin 100000) : val_main_v17 (F := Ideal) sizes (ix1 n) = BitVec.ofNat 32 (n.val / 500) := by
  rw [val_main_v17_apply, call3_v12_at]
  have h := gather_vec (idx := val_main_call3_v5 (F := Ideal) sizes) call3_v5_at (val_main_v0 (F := Ideal)) n
  exact h

end Cert.ReferenceIdeal.Hand

end
-- ==== Proof.ReferenceIdeal.Step.lean ====
/-
One step of the reference, read element by element at the extended reals: the LSTM cell and the softmax attention of each graph over its atoms.
-/
module

public import proofs.«01_k».proof.Proof.ReferenceIdeal.Ops

@[expose] public section

set_option maxRecDepth 16384

noncomputable section

namespace Cert.ReferenceIdeal.Hand

open Idealize.ShloMosaic Cert.S2S

variable [Facts₀]
open Facts₀

/-! ## The cell -/

/-- The four gates before their nonlinearities. -/
def gatesV (qs : FVec Ideal S200x256 .f32) (h : FVec Ideal S200x128 .f32) (x3 : FVec Ideal S512x256 .f32) (x4 : FVec Ideal S512x128 .f32)
    (x5 x6 : FVec Ideal S512 .f32) : FVec Ideal S200x512 .f32 :=
  addf (addf (addf
    (Host.dotGeneral dot_S200x256_S256x512_S200x512_1_0_0_1_n_n none qs (transpose S256x512 [1, 0] x3 transposes_S512x256_S256x512_1_0))
    (Host.dotGeneral dot_S200x128_S128x512_S200x512_1_0_0_1_n_n none h (transpose S128x512 [1, 0] x4 transposes_S512x128_S128x512_1_0)))
    (broadcastInDim S200x512 ![0, 1] bcast_S1x512_S200x512_0_1 (broadcastInDim S1x512 ![1] bcast_S512_S1x512_1 x5)))
    (broadcastInDim S200x512 ![0, 1] bcast_S1x512_S200x512_0_1 (broadcastInDim S1x512 ![1] bcast_S512_S1x512_1 x6))

/-- The logistic function of every element. -/
def sigV (v : FVec Ideal S200x128 .f32) : FVec Ideal S200x128 .f32 :=
  Host.divf (broadcastInDim S200x128 ![] bcast_S_S200x128 (constant S_ .f32 0x3F800000#32))
    (addf (broadcastInDim S200x128 ![] bcast_S_S200x128 (constant S_ .f32 0x3F800000#32)) (Host.exp (Host.negf v)))

/-- The new cell state. -/
def cellV (g : FVec Ideal S200x512 .f32) (c : FVec Ideal S200x128 .f32) : FVec Ideal S200x128 .f32 :=
  addf (mulf (sigV (extractStridedSlice S200x128 ![0, 128] g slices_S200x512_S200x128_0_128)) c)
    (mulf (sigV (extractStridedSlice S200x128 ![0, 0] g slices_S200x512_S200x128_0_0))
      (Host.tanh (extractStridedSlice S200x128 ![0, 256] g slices_S200x512_S200x128_0_256)))

/-- The new hidden state. -/
def hiddenV (g : FVec Ideal S200x512 .f32) (c : FVec Ideal S200x128 .f32) : FVec Ideal S200x128 .f32 :=
  mulf (sigV (extractStridedSlice S200x128 ![0, 384] g slices_S200x512_S200x128_0_384)) (Host.tanh (cellV g c))

/-! ## The attention -/

/-- The graph numbers as an index array, as the segment sums take it and, behind a wrap of negative numbers, as the gathers do. -/
def colV (seg : IVec S100000 32) : IVec S100000x1 32 := broadcastInDim S100000x1 ![0] bcast_S100000_S100000x1_0 seg
def wrapV (seg : IVec S100000 32) : IVec S100000x1 32 :=
  broadcastInDim S100000x1 ![0] bcast_S100000_S100000x1_0
    (select (cmpi .slt seg (broadcastInDim S100000 ![] bcast_S_S100000 (constantI S_ 32 0#32)))
      (addi seg (broadcastInDim S100000 ![] bcast_S_S100000 (constantI S_ 32 200#32))) seg)

/-- The score of every atom. -/
def scoreV (seg : IVec S100000 32) (x0 : FVec Ideal S100000x128 .f32) (q : FVec Ideal S200x128 .f32) : FVec Ideal S100000 .f32 :=
  Host.reduceAdd (mulf x0 (Host.gather gather_S200x128_S100000x1_S100000x128_1_0_n_n_0_1_1128 q (wrapV seg)))
    (constant S_ .f32 0x00000000#32) reducesTo_S100000x128_S100000_d1 h_S_

/-- The scores by graph and atom, `⊥` where the atom is another graph's. -/
def tableV (seg : IVec S100000 32) (e : FVec Ideal S100000 .f32) : FVec Ideal S200x100000 .f32 :=
  select
    (cmpi .eq
      (broadcastInDim S200x100000 ![0, 1] bcast_S1x100000_S200x100000_0_1 (broadcastInDim S1x100000 ![1] bcast_S100000_S1x100000_1 seg))
      (broadcastInDim S200x100000 ![0, 1] bcast_S200x1_S200x100000_0_1 (broadcastInDim S200x1 ![0] bcast_S200_S200x1_0 (iotaInDim S200 32 0))))
    (broadcastInDim S200x100000 ![0, 1] bcast_S1x100000_S200x100000_0_1 (broadcastInDim S1x100000 ![1] bcast_S100000_S1x100000_1 e))
    (broadcastInDim S200x100000 ![] bcast_S_S200x100000 (id (constant (F := Ideal) S_ .f32 0xFF800000#32)))

/-- The largest score of every graph. -/
def maxV (seg : IVec S100000 32) (e : FVec Ideal S100000 .f32) : FVec Ideal S200 .f32 :=
  Host.reduce FloatOps.maximumf (tableV seg e) (constant S_ .f32 0xFF800000#32) reducesTo_S200x100000_S200_d1 h_S_

/-- The unnormalised weight of every atom. -/
def expV (seg : IVec S100000 32) (e : FVec Ideal S100000 .f32) : FVec Ideal S100000 .f32 :=
  Host.exp (subf e (Host.gather gather_S200_S100000x1_S100000_n_0_n_n_0_1_1 (maxV seg e) (wrapV seg)))

/-- The sum of the weights of every graph. -/
def sumV (seg : IVec S100000 32) (e : FVec Ideal S100000 .f32) : FVec Ideal S200 .f32 :=
  Host.scatterAdd scatter_S200_S100000x1_S100000_n_0_0_1 (broadcastInDim S200 ![] bcast_S_S200 (constant S_ .f32 0x00000000#32)) (colV seg) (expV seg e)

/-- The normalised weight of every atom. -/
def alphaV (seg : IVec S100000 32) (e : FVec Ideal S100000 .f32) : FVec Ideal S100000 .f32 :=
  Host.divf (expV seg e) (Host.gather gather_S200_S100000x1_S100000_n_0_n_n_0_1_1 (sumV seg e) (wrapV seg))

/-- The readout of every graph. -/
def readV (seg : IVec S100000 32) (x0 : FVec Ideal S100000x128 .f32) (q : FVec Ideal S200x128 .f32) : FVec Ideal S200x128 .f32 :=
  Host.scatterAdd scatter_S200x128_S100000x1_S100000x128_1_0_0_1 (broadcastInDim S200x128 ![] bcast_S_S200x128 (constant S_ .f32 0x00000000#32)) (colV seg)
    (mulf x0 (broadcastInDim S100000x128 ![0, 1] bcast_S100000x1_S100000x128_0_1
      (broadcastInDim S100000x1 ![0] bcast_S100000_S100000x1_0 (alphaV seg (scoreV seg x0 q)))))

/-- The query and the readout side by side. -/
def joinV (q r : FVec Ideal S200x128 .f32) : FVec Ideal S200x256 .f32 :=
  concatenate S200x256 1 [⟨S200x128, q⟩, ⟨S200x128, r⟩] concatenates_S200x128_S200x128_S200x256_d1

/-! ## The cell read -/

/-- A matrix by row and column. -/
def mat (x : FVec Ideal S200x128 .f32) : Mat := fun b d => x (ix2 b d)

theorem join_lo (q r : FVec Ideal S200x128 .f32) (b : Fin 200) (k : Fin 128) : joinV q r (ix2 b ⟨k.val, by omega⟩) = q (ix2 b k) := by
  pointwise [joinV]

theorem join_hi (q r : FVec Ideal S200x128 .f32) (b : Fin 200) (k : Fin 128) : joinV q r (ix2 b ⟨128 + k.val, by omega⟩) = r (ix2 b k) := by
  pointwise [joinV]

theorem gates_at (qs : FVec Ideal S200x256 .f32) (h : FVec Ideal S200x128 .f32) (x3 : FVec Ideal S512x256 .f32) (x4 : FVec Ideal S512x128 .f32)
    (x5 x6 : FVec Ideal S512 .f32) (b : Fin 200) (g : Fin 512) :
    gatesV qs h x3 x4 x5 x6 (ix2 b g)
      = ((∑ k : Fin 256, qs (ix2 b k) * x3 (ix2 g k)) + ∑ k : Fin 128, h (ix2 b k) * x4 (ix2 g k)) + x5 (ix1 g) + x6 (ix1 g) := by
  pointwise [gatesV]

/-- The gates of the reference are the specification's. -/
theorem gates_eq (qs : FVec Ideal S200x256 .f32) (q r h c : FVec Ideal S200x128 .f32) (x3 : FVec Ideal S512x256 .f32) (x4 : FVec Ideal S512x128 .f32)
    (x5 x6 : FVec Ideal S512 .f32) (hlo : ∀ b (k : Fin 128), qs (ix2 b (⟨k.val, by omega⟩ : Fin 256)) = q (ix2 b k))
    (hhi : ∀ b (k : Fin 128), qs (ix2 b (⟨128 + k.val, by omega⟩ : Fin 256)) = r (ix2 b k)) (b : Fin 200) (g : Fin 512) :
    gatesV qs h x3 x4 x5 x6 (ix2 b g) = gate (weights x3 x4 x5 x6) ⟨mat q, mat r, mat h, mat c⟩ b g := by
  rw [gates_at, Fin.sum_univ_two_halves 128 128 rfl, add_assoc _ (x5 (ix1 g)) (x6 (ix1 g))]
  unfold gate
  refine congrArg (· + _) (congrArg (· + _) (congr (congrArg _ ?_) ?_))
  · exact Finset.sum_congr rfl fun k _ => congrArg (· * _) (hlo b k)
  · exact Finset.sum_congr rfl fun k _ => congrArg (· * _) (hhi b k)

theorem sig_at (v : FVec Ideal S200x128 .f32) (b : Fin 200) (d : Fin 128) : sigV v (ix2 b d) = sigm (v (ix2 b d)) := by
  pointwise [sigV, sigm]

theorem cell_at (g : FVec Ideal S200x512 .f32) (c : FVec Ideal S200x128 .f32) (b : Fin 200) (d : Fin 128) :
    cellV g c (ix2 b d) = sigm (g (ix2 b ⟨128 + d.val, by omega⟩)) * c (ix2 b d)
      + sigm (g (ix2 b ⟨d.val, by omega⟩)) * Ideal.tanh (g (ix2 b ⟨256 + d.val, by omega⟩)) := by
  pointwise [cellV, sigV, sigm]

theorem hidden_at (g : FVec Ideal S200x512 .f32) (c : FVec Ideal S200x128 .f32) (b : Fin 200) (d : Fin 128) :
    hiddenV g c (ix2 b d) = sigm (g (ix2 b ⟨384 + d.val, by omega⟩)) * Ideal.tanh (cellV g c (ix2 b d)) := by
  pointwise [hiddenV, sigV, sigm]

/-! ## The attention read -/

theorem negInf_eq : Ideal.ofBits FTy.f32 4286578688#32 = ⊥ := by simp [Ideal.ofBits, Ideal.ieee]

/-- The graph of atom `k` of graph `b` is `b`. -/
theorem graph_atom (b : Fin 200) (k : Fin 500) : (⟨(atom b k).val / 500, by have := (atom b k).isLt; omega⟩ : Fin 200) = b :=
  Fin.ext (by show (500 * b.val + k.val) / 500 = b.val; have := k.isLt; omega)

section
variable {seg : IVec S100000 32} (hs : ∀ n : Fin 100000, seg (ix1 n) = BitVec.ofNat 32 (n.val / 500))
include hs

theorem groups_col : Groups (colV seg) := fun n => by
  refine Eq.trans ?_ (hs n)
  pointwise [colV]

theorem groups_wrap : Groups (wrapV seg) := fun n => by
  have e : wrapV seg (ix2 n (0 : Fin 1)) = Scalar.select (IntOp.cmpi .slt (seg (ix1 n)) 0#32) (IntOp.addi (seg (ix1 n)) 200#32) (seg (ix1 n)) := by
    pointwise [wrapV]
  rw [e, hs n]
  exact Routing.wrap_of_lt _ _ (by rw [BitVec.toNat_ofNat]; exact lt_of_le_of_lt (Nat.mod_le _ _) (by omega))

theorem score_at (x0 : FVec Ideal S100000x128 .f32) (q : FVec Ideal S200x128 .f32) (n : Fin 100000) :
    scoreV seg x0 q (ix1 n) = ∑ d : Fin 128, x0 (ix2 n d) * q (ix2 (⟨n.val / 500, by omega⟩ : Fin 200) d) := by
  pointwise [scoreV]
  exact Finset.sum_congr rfl fun d _ => congrArg (_ * ·) (gather_mat (groups_wrap hs) q n d)

theorem table_at (e : FVec Ideal S100000 .f32) (b : Fin 200) (n : Fin 100000) :
    tableV seg e (ix2 b n) = if n.val / 500 = b.val then e (ix1 n) else ⊥ := by
  pointwise [tableV]
  rw [hs n]
  have hb := b.isLt
  have hn := n.isLt
  have hw : (BitVec.ofNat 32 (n.val / 500) = BitVec.ofNat 32 b.val) ↔ n.val / 500 = b.val := by
    constructor
    · intro h
      have h' := congrArg BitVec.toNat h
      rw [BitVec.toNat_ofNat, BitVec.toNat_ofNat, Nat.mod_eq_of_lt (by omega), Nat.mod_eq_of_lt (by omega)] at h'
      exact h'
    · exact fun h => congrArg _ h
  have hbot : (id (constant (F := Ideal) S_ FTy.f32 4286578688#32) ix0 : EReal) = ⊥ := negInf_eq
  by_cases h : n.val / 500 = b.val
  · rw [if_pos h, h]
    simp [Scalar.select, IntOp.cmpi]
  · rw [if_neg h]
    refine Eq.trans ?_ hbot
    show Scalar.select (BitVec.ofBool (BitVec.ofNat 32 (n.val / 500) == BitVec.ofNat 32 b.val)) _ _ = _
    rw [beq_false_of_ne (mt hw.1 h)]
    rfl

theorem max_at (e : FVec Ideal S100000 .f32) (b : Fin 200) :
    maxV seg e (ix1 b) = top fun k => e (ix1 (atom b k)) := by
  pointwise [maxV]
  rw [negInf_eq]
  exact sup_block (N := 100000) (K := 200) rfl b (fun n => e (ix1 n)) (fun n => tableV seg e (ix2 b n)) fun n => table_at hs e b n

theorem exp_at (e : FVec Ideal S100000 .f32) (n : Fin 100000) :
    expV seg e (ix1 n) = Ideal.exp (e (ix1 n) - maxV seg e (ix1 (⟨n.val / 500, by omega⟩ : Fin 200))) := by
  pointwise [expV]
  exact congrArg (fun z => Ideal.exp (_ - z)) (gather_vec (groups_wrap hs) _ n)

theorem sum_at (e : FVec Ideal S100000 .f32) (b : Fin 200) :
    sumV seg e (ix1 b) = den fun k => e (ix1 (atom b k)) := by
  unfold sumV
  rw [scatterAdd_vec (groups_col hs), sum_block (N := 100000) (K := 200) rfl b _ _ fun n => Iff.rfl]
  have hz : (broadcastInDim S200 ![] bcast_S_S200 (constant (F := Ideal) S_ .f32 0x00000000#32) (ix1 b) : EReal) = 0 := by
    pointwise []
  rw [hz, zero_add]
  refine Finset.sum_congr rfl fun k _ => ?_
  refine (exp_at hs e (atom b k)).trans ?_
  rw [graph_atom, max_at hs]
  rfl

theorem alpha_at (e : FVec Ideal S100000 .f32) (n : Fin 100000) :
    alphaV seg e (ix1 n) = Ideal.div (expV seg e (ix1 n)) (sumV seg e (ix1 (⟨n.val / 500, by omega⟩ : Fin 200))) := by
  pointwise [alphaV]
  exact congrArg (Ideal.div _) (gather_vec (groups_wrap hs) _ n)

theorem read_at (x0 : FVec Ideal S100000x128 .f32) (q : FVec Ideal S200x128 .f32) (b : Fin 200) (d : Fin 128) :
    readV seg x0 q (ix2 b d) = ∑ k : Fin 500, x0 (ix2 (atom b k) d) * alphaV seg (scoreV seg x0 q) (ix1 (atom b k)) := by
  unfold readV
  rw [scatterAdd_row (groups_col hs), sum_block (N := 100000) (K := 200) rfl b _ _ fun n => Iff.rfl]
  have hz : (broadcastInDim S200x128 ![] bcast_S_S200x128 (constant (F := Ideal) S_ .f32 0x00000000#32) (ix2 b d) : EReal) = 0 := by
    pointwise []
  rw [hz, zero_add]
  refine Finset.sum_congr rfl fun k _ => ?_
  show mulf x0 _ (ix2 (atom b k) d) = _
  pointwise []

/-- The reference's readout is the specification's where features and query are real. -/
theorem read_eq (x0 : FVec Ideal S100000x128 .f32) (q : FVec Ideal S200x128 .f32) (hx : ∀ n d, IsReal (feats x0 n d)) (hq : ∀ b d, IsReal (mat q b d)) :
    mat (readV seg x0 q) = readout (feats x0) (mat q) := by
  funext b d
  have hsc : (fun k : Fin 500 => scoreV seg x0 q (ix1 (atom b k))) = score (feats x0) (mat q) b := by
    funext k
    rw [score_at hs, graph_atom]
    exact Finset.sum_congr rfl fun d _ => mul_comm _ _
  refine (read_at hs x0 q b d).trans ?_
  unfold readout
  rw [readout_eq (score (feats x0) (mat q) b) (fun k => feats x0 (atom b k) d) (IsReal.score _ _ hx hq b) fun k => hx _ _]
  refine Finset.sum_congr rfl fun k _ => ?_
  have hk : scoreV seg x0 q (ix1 (atom b k)) = score (feats x0) (mat q) b k := congrFun hsc k
  have ha : alphaV seg (scoreV seg x0 q) (ix1 (atom b k)) = Ideal.div (wt (score (feats x0) (mat q) b) k) (den (score (feats x0) (mat q) b)) := by
    rw [alpha_at hs, exp_at hs, graph_atom, sum_at hs, max_at hs, hsc, hk]
    rfl
  rw [ha]
  rfl

end

/-! ## A whole step -/

/-- One step of the reference is one step of the specification. -/
theorem step_eq {seg : IVec S100000 32} (hs : ∀ n : Fin 100000, seg (ix1 n) = BitVec.ofNat 32 (n.val / 500))
    (x0 : FVec Ideal S100000x128 .f32) (hx : ∀ n d, IsReal (feats x0 n d)) (x3 : FVec Ideal S512x256 .f32) (x4 : FVec Ideal S512x128 .f32)
    (x5 x6 : FVec Ideal S512 .f32) (qs : FVec Ideal S200x256 .f32) (q r h c : FVec Ideal S200x128 .f32)
    (hlo : ∀ b (k : Fin 128), qs (ix2 b (⟨k.val, by omega⟩ : Fin 256)) = q (ix2 b k))
    (hhi : ∀ b (k : Fin 128), qs (ix2 b (⟨128 + k.val, by omega⟩ : Fin 256)) = r (ix2 b k)) :
    (⟨mat (hiddenV (gatesV qs h x3 x4 x5 x6) c), mat (readV seg x0 (hiddenV (gatesV qs h x3 x4 x5 x6) c)),
      mat (hiddenV (gatesV qs h x3 x4 x5 x6) c), mat (cellV (gatesV qs h x3 x4 x5 x6) c)⟩ : State)
      = step (feats x0) (weights x3 x4 x5 x6) ⟨mat q, mat r, mat h, mat c⟩ := by
  have hg := gates_eq qs q r h c x3 x4 x5 x6 hlo hhi
  have hc : mat (cellV (gatesV qs h x3 x4 x5 x6) c) = cNew (weights x3 x4 x5 x6) ⟨mat q, mat r, mat h, mat c⟩ := by
    funext b d
    refine (cell_at _ _ b d).trans ?_
    rw [hg, hg, hg]
    rfl
  have hh : mat (hiddenV (gatesV qs h x3 x4 x5 x6) c) = hNew (weights x3 x4 x5 x6) ⟨mat q, mat r, mat h, mat c⟩ := by
    funext b d
    refine (hidden_at _ _ b d).trans ?_
    rw [hg]
    exact congrArg (fun z => _ * Ideal.tanh z) (congrFun (congrFun hc b) d)
  have hr := read_eq hs x0 (hiddenV (gatesV qs h x3 x4 x5 x6) c) hx (by rw [hh]; exact IsReal.hNew _ _)
  rw [hr, hc, hh]
  rfl

end Cert.ReferenceIdeal.Hand

end
-- ==== Proof.ReferenceIdeal.Result.lean ====
/-
The reference's result array: three steps from zero, the query and the readout of the last beside the global features.
-/
module

public import proofs.«01_k».proof.Proof.ReferenceIdeal.Seg
public import proofs.«01_k».proof.Proof.ReferenceIdeal.Step

@[expose] public section

set_option maxRecDepth 16384

noncomputable section

namespace Cert.ReferenceIdeal.Hand

open Idealize.ShloMosaic Cert.S2S Cert.ReferenceIdeal.Read

section
variable (x0 : FVec Ideal S100000x128 .f32) (x1 : IVec S200 32) (x2 : FVec Ideal S200x128 .f32) (x3 : FVec Ideal S512x256 .f32)
  (x4 : FVec Ideal S512x128 .f32) (x5 x6 : FVec Ideal S512 .f32)

/-! ## The reference's values are those of the step -/

theorem gates1 : val_main_v31 (F := Ideal) x3 x4 x5 x6 = gatesV (val_main_v20 (F := Ideal)) (val_main_v18 (F := Ideal)) x3 x4 x5 x6 := rfl
theorem cell1 : val_main_v57 (F := Ideal) x3 x4 x5 x6 = cellV (val_main_v31 (F := Ideal) x3 x4 x5 x6) (val_main_v19 (F := Ideal)) := rfl
theorem hidden1 : val_main_v59 (F := Ideal) x3 x4 x5 x6 = hiddenV (val_main_v31 (F := Ideal) x3 x4 x5 x6) (val_main_v19 (F := Ideal)) := rfl
theorem read1 : val_main_v103 (F := Ideal) x0 x1 x3 x4 x5 x6 = readV (val_main_v17 (F := Ideal) x1) x0 (val_main_v59 (F := Ideal) x3 x4 x5 x6) := rfl
theorem join1 : val_main_v104 (F := Ideal) x0 x1 x3 x4 x5 x6
    = joinV (val_main_v59 (F := Ideal) x3 x4 x5 x6) (val_main_v103 (F := Ideal) x0 x1 x3 x4 x5 x6) := rfl

theorem gates2 : val_main_v115 (F := Ideal) x0 x1 x3 x4 x5 x6
    = gatesV (val_main_v104 (F := Ideal) x0 x1 x3 x4 x5 x6) (val_main_v59 (F := Ideal) x3 x4 x5 x6) x3 x4 x5 x6 := rfl
theorem cell2 : val_main_v141 (F := Ideal) x0 x1 x3 x4 x5 x6
    = cellV (val_main_v115 (F := Ideal) x0 x1 x3 x4 x5 x6) (val_main_v57 (F := Ideal) x3 x4 x5 x6) := rfl
theorem hidden2 : val_main_v143 (F := Ideal) x0 x1 x3 x4 x5 x6
    = hiddenV (val_main_v115 (F := Ideal) x0 x1 x3 x4 x5 x6) (val_main_v57 (F := Ideal) x3 x4 x5 x6) := rfl
theorem read2 : val_main_v187 (F := Ideal) x0 x1 x3 x4 x5 x6
    = readV (val_main_v17 (F := Ideal) x1) x0 (val_main_v143 (F := Ideal) x0 x1 x3 x4 x5 x6) := rfl
theorem join2 : val_main_v188 (F := Ideal) x0 x1 x3 x4 x5 x6
    = joinV (val_main_v143 (F := Ideal) x0 x1 x3 x4 x5 x6) (val_main_v187 (F := Ideal) x0 x1 x3 x4 x5 x6) := rfl

theorem gates3 : val_main_v199 (F := Ideal) x0 x1 x3 x4 x5 x6
    = gatesV (val_main_v188 (F := Ideal) x0 x1 x3 x4 x5 x6) (val_main_v143 (F := Ideal) x0 x1 x3 x4 x5 x6) x3 x4 x5 x6 := rfl
theorem hidden3 : val_main_v227 (F := Ideal) x0 x1 x3 x4 x5 x6
    = hiddenV (val_main_v199 (F := Ideal) x0 x1 x3 x4 x5 x6) (val_main_v141 (F := Ideal) x0 x1 x3 x4 x5 x6) := rfl
theorem read3 : val_main_v271 (F := Ideal) x0 x1 x3 x4 x5 x6
    = readV (val_main_v17 (F := Ideal) x1) x0 (val_main_v227 (F := Ideal) x0 x1 x3 x4 x5 x6) := rfl
theorem join3 : val_main_v272 (F := Ideal) x0 x1 x3 x4 x5 x6
    = joinV (val_main_v227 (F := Ideal) x0 x1 x3 x4 x5 x6) (val_main_v271 (F := Ideal) x0 x1 x3 x4 x5 x6) := rfl

end

/-! ## The three steps -/

theorem zero18 (b : Fin 200) (d : Fin 128) : (val_main_v18 (F := Ideal) (ix2 b d) : EReal) = 0 := by pointwise [val_main_v18, val_main_cst]
theorem zero19 (b : Fin 200) (d : Fin 128) : (val_main_v19 (F := Ideal) (ix2 b d) : EReal) = 0 := by pointwise [val_main_v19, val_main_cst_6]
theorem zero20 (b : Fin 200) (d : Fin 256) : (val_main_v20 (F := Ideal) (ix2 b d) : EReal) = 0 := by pointwise [val_main_v20, val_main_cst_7]

section
variable (x0 : FVec Ideal S100000x128 .f32) (hx : ∀ n d, IsReal (feats x0 n d)) (x2 : FVec Ideal S200x128 .f32) (x3 : FVec Ideal S512x256 .f32)
  (x4 : FVec Ideal S512x128 .f32) (x5 x6 : FVec Ideal S512 .f32)
include hx

theorem state1 : (⟨mat (val_main_v59 (F := Ideal) x3 x4 x5 x6), mat (val_main_v103 (F := Ideal) x0 sizes x3 x4 x5 x6),
    mat (val_main_v59 (F := Ideal) x3 x4 x5 x6), mat (val_main_v57 (F := Ideal) x3 x4 x5 x6)⟩ : State)
      = state (feats x0) (weights x3 x4 x5 x6) 1 := by
  rw [read1, hidden1, cell1, gates1]
  refine (step_eq graph_at x0 hx x3 x4 x5 x6 (val_main_v20 (F := Ideal)) (val_main_v18 (F := Ideal)) (val_main_v18 (F := Ideal))
    (val_main_v18 (F := Ideal)) (val_main_v19 (F := Ideal)) (fun b k => (zero20 b _).trans (zero18 b k).symm)
    (fun b k => (zero20 b _).trans (zero18 b k).symm)).trans ?_
  have h18 : mat (val_main_v18 (F := Ideal)) = fun _ _ => 0 := funext fun b => funext fun d => zero18 b d
  have h19 : mat (val_main_v19 (F := Ideal)) = fun _ _ => 0 := funext fun b => funext fun d => zero19 b d
  rw [h18, h19]
  rfl

theorem state2 : (⟨mat (val_main_v143 (F := Ideal) x0 sizes x3 x4 x5 x6), mat (val_main_v187 (F := Ideal) x0 sizes x3 x4 x5 x6),
    mat (val_main_v143 (F := Ideal) x0 sizes x3 x4 x5 x6), mat (val_main_v141 (F := Ideal) x0 sizes x3 x4 x5 x6)⟩ : State)
      = state (feats x0) (weights x3 x4 x5 x6) 2 := by
  rw [read2, hidden2, cell2, gates2]
  refine (step_eq graph_at x0 hx x3 x4 x5 x6 (val_main_v104 (F := Ideal) x0 sizes x3 x4 x5 x6) (val_main_v59 (F := Ideal) x3 x4 x5 x6)
    (val_main_v103 (F := Ideal) x0 sizes x3 x4 x5 x6) (val_main_v59 (F := Ideal) x3 x4 x5 x6) (val_main_v57 (F := Ideal) x3 x4 x5 x6)
    (fun b k => by rw [join1]; exact join_lo _ _ b k) (fun b k => by rw [join1]; exact join_hi _ _ b k)).trans ?_
  rw [state1 x0 hx]
  rfl

theorem state3 : (state (feats x0) (weights x3 x4 x5 x6) 3).q = mat (val_main_v227 (F := Ideal) x0 sizes x3 x4 x5 x6)
    ∧ (state (feats x0) (weights x3 x4 x5 x6) 3).r = mat (val_main_v271 (F := Ideal) x0 sizes x3 x4 x5 x6) := by
  have h := step_eq graph_at x0 hx x3 x4 x5 x6 (val_main_v188 (F := Ideal) x0 sizes x3 x4 x5 x6) (val_main_v143 (F := Ideal) x0 sizes x3 x4 x5 x6)
    (val_main_v187 (F := Ideal) x0 sizes x3 x4 x5 x6) (val_main_v143 (F := Ideal) x0 sizes x3 x4 x5 x6) (val_main_v141 (F := Ideal) x0 sizes x3 x4 x5 x6)
    (fun b k => by rw [join2]; exact join_lo _ _ b k) (fun b k => by rw [join2]; exact join_hi _ _ b k)
  rw [state2 x0 hx, ← gates3, ← hidden3, ← read3] at h
  exact ⟨(congrArg State.q h).symm, (congrArg State.r h).symm⟩

/-- The reference's result array. -/
theorem result_eq : val_main_v273 (F := Ideal) x0 sizes x2 x3 x4 x5 x6 = whole x0 x2 x3 x4 x5 x6 := by
  funext y
  obtain ⟨b, d, rfl⟩ : ∃ (b : Fin 200) (d : Fin 384), y = ix2 b d := ⟨y 0, y 1, eq_ix2 y⟩
  obtain ⟨hq, hr⟩ := state3 x0 hx x3 x4 x5 x6
  show _ = S2S.result _ _ b d
  unfold S2S.result
  rw [hq, hr]
  pointwise [val_main_v273, val_main_v272]
  by_cases h1 : d.val < 128
  · rw [dif_pos (by omega), dif_pos h1, dif_pos h1]
    rfl
  · by_cases h2 : d.val < 256
    · rw [dif_pos h2, dif_neg h1, dif_neg h1, dif_pos (by omega)]
      rfl
    · rw [dif_neg h2, dif_neg h1, dif_neg (by omega)]
      exact congrArg (fun z : Fin 128 => x2 (ix2 b z)) (Fin.ext (by show d.val - 256 = d.val - 128 - 128; omega))

end

/-! ## Finite features -/

/-- A value whose magnitude is below infinity is real. -/
theorem real_of_abs_lt {x : EReal} (h : Ideal.cmp .olt (max x (-x)) ⊤ = 1#1) : IsReal x := by
  have h' : BitVec.ofBool (decide (max x (-x) < ⊤)) = 1#1 := h
  have hlt : max x (-x) < ⊤ := by
    by_contra hc
    rw [decide_eq_false hc] at h'
    exact absurd h' (by decide)
  obtain ⟨h1, h2⟩ := max_lt_iff.1 hlt
  refine ⟨x.toReal, (EReal.coe_toReal h1.ne ?_).symm⟩
  rintro rfl
  rw [EReal.neg_bot] at h2
  exact lt_irrefl _ h2

end Cert.ReferenceIdeal.Hand

end
-- ==== Proof.Algebraic.lean ====
/-
The kernel and the reference end with equal results: both result arrays are the Set2Set readout of the arguments beside the global features.
-/
module

public import proofs.«01_k».proof.Defs
public import proofs.«01_k».proof.Proof.Gen.Pre_equal_sizes_finite_features
public import proofs.«01_k».proof.Proof.KernelIdeal.Result
public import proofs.«01_k».proof.Proof.ReferenceIdeal.Result

@[expose] public section

noncomputable section

namespace Cert.Proof

open Idealize.ShloMosaic Idealize.SL.Sem Cert.S2S

section
variable [Cert.Pre_equal_sizes_finite_features.Facts]
variable (x0 : FVec Ideal Cert.ReferenceIdeal.S100000x128 .f32) (x1 : IVec Cert.ReferenceIdeal.S200 32) (x2 : FVec Ideal Cert.ReferenceIdeal.S200x128 .f32)
  (x3 : FVec Ideal Cert.ReferenceIdeal.S512x256 .f32) (x4 : FVec Ideal Cert.ReferenceIdeal.S512x128 .f32) (x5 x6 : FVec Ideal Cert.ReferenceIdeal.S512 .f32)

/-- Where the first part of the precondition is all ones every graph has 500 atoms. -/
theorem sizes_of_pre (h : (Cert.Pre_equal_sizes_finite_features.fn (F := Ideal) x0 x1 x2 x3 x4 x5 x6).1 = fun _ => 1#1) :
    x1 = Cert.ReferenceIdeal.Hand.sizes := by
  funext i
  have hi : BitVec.ofBool (x1 i == 500#32) = 1#1 := congrFun h i
  show x1 i = 500#32
  by_contra hc
  rw [beq_false_of_ne hc] at hi
  exact absurd hi (by decide)

/-- Where the second part is all ones every feature is real. -/
theorem real_of_pre (h : (Cert.Pre_equal_sizes_finite_features.fn (F := Ideal) x0 x1 x2 x3 x4 x5 x6).2 = fun _ => 1#1) (n : Fin 100000) (d : Fin 128) :
    IsReal (feats x0 n d) := by
  have hi : Ideal.cmp .olt (max (x0 (ix2 n d)) (-x0 (ix2 n d))) (Ideal.ofBits FTy.f32 0x7F800000#32) = 1#1 := congrFun h (ix2 n d)
  rw [show Ideal.ofBits FTy.f32 0x7F800000#32 = ⊤ by simp [Ideal.ofBits, Ideal.ieee]] at hi
  exact Cert.ReferenceIdeal.Hand.real_of_abs_lt hi

end

/-- The value claim. -/
theorem equal_results : Cert.algebraic_KernelIdeal_ReferenceIdeal_pre_equal_sizes_finite_features := by
  intro m g m' g' hpre hargs
  refine ⟨Cert.KernelIdeal.Hand.resultOf m, Cert.KernelIdeal.Hand.run_value m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v273_eq (F := Ideal) (StableHlo.launchContents m' c)).trans ?_
  show Cert.ReferenceIdeal.Read.val_main_v273 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) = _
  obtain ⟨e0, e1, e2, e3, e4, e5, e6⟩ := hargs c
  rw [e0, e1, e2, e3, e4, e5, e6]
  rw [sizes_of_pre _ _ _ _ _ _ _ (hpre c).1]
  exact Cert.ReferenceIdeal.Hand.result_eq _ (real_of_pre _ _ _ _ _ _ _ (hpre c).2) _ _ _ _ _

end Cert.Proof

end
-- ==== Proof.lean ====
/-
The certificate of the Set2Set kernel: the kernel runs without fault and leaves its arguments and its semaphores as they were, at the chip's floats
and at the extended reals; so does the reference; and at the extended reals both end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_equal_sizes_finite_features
public import proofs.«01_k».proof.Proof.Kernel.Run
public import proofs.«01_k».proof.Proof.KernelIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame at the chip's own floats. -/
theorem frame_k : Cert.quiescent_Kernel := fun m ρ _ => Cert.Kernel.Hand.frame m ρ

/-- The kernel's frame at the extended reals. -/
theorem frame_ki : Cert.quiescent_KernelIdeal := fun m ρ _ => Cert.KernelIdeal.Hand.frame m ρ

/-- The reference's frame: the generated run read at the arguments; the program declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_equal_sizes_finite_features.Gen.facts, frame_k, frame_ki, fun m ρ _ => frame_ki m ρ trivial, frame_r,
  fun m ρ _ => frame_r m ρ trivial, trivial, equal_results⟩

end Cert.Proof

end
